-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel) (hPre_drawn := hPre_drawn)
    ∧ quiescent_KernelIdeal (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal (hKernelIdeal := hKernelIdeal) (hReferenceIdeal := hReferenceIdeal) (hPre_drawn := hPre_drawn)
-- ==== Pre_drawn.lean ====
abbrev S1024x4096 : Shape := ⟨2, ![1024, 4096]⟩
abbrev S16777 : Shape := ⟨1, ![16777]⟩
abbrev S2x16777 : Shape := ⟨2, ![2, 16777]⟩
abbrev S_ : Shape := ⟨0, ![]⟩

class Facts : Prop where
  bcast_S_S2x16777 : S_.BroadcastsInDim S2x16777 (![] : Fin 0 → Fin S2x16777.rank)

variable [Facts]

def fn {F : FTy → Type} [FloatOps F] (main_arg0 : FVec F S1024x4096 .f32) (main_arg1 : FVec F S16777 .f32) (main_arg2 : IVec S2x16777 32) : IVec S2x16777 1 :=
  let main_v0 : IVec S2x16777 32 := iotaInDim S2x16777 32 0
  let main_v1 : IVec S2x16777 32 := iotaInDim S2x16777 32 1
  let main_c : IVec S_ 32 := constantI S_ 32 0#32
  let main_v2 : IVec S2x16777 32 := broadcastInDim S2x16777 ![] bcast_S_S2x16777 main_c
  let main_v3 : IVec S2x16777 1 := cmpi .sge main_arg2 main_v2
  let main_c_0 : IVec S_ 32 := constantI S_ 32 4096#32
  let main_v4 : IVec S2x16777 32 := broadcastInDim S2x16777 ![] bcast_S_S2x16777 main_c_0
  let main_v5 : IVec S2x16777 1 := cmpi .slt main_arg2 main_v4
  let main_v6 : IVec S2x16777 1 := andi main_v3 main_v5
  let main_c_1 : IVec S_ 32 := constantI S_ 32 0#32
  let main_v7 : IVec S2x16777 32 := broadcastInDim S2x16777 ![] bcast_S_S2x16777 main_c_1
  let main_v8 : IVec S2x16777 1 := cmpi .eq main_v0 main_v7
  let main_c_2 : IVec S_ 32 := constantI S_ 32 4096#32
  let main_v9 : IVec S2x16777 32 := broadcastInDim S2x16777 ![] bcast_S_S2x16777 main_c_2
  let main_v10 : IVec S2x16777 1 := cmpi .sge main_v1 main_v9
  let main_v11 : IVec S2x16777 1 := ori main_v8 main_v10
  let main_v12 : IVec S2x16777 1 := cmpi .eq main_arg2 main_v1
  let main_v13 : IVec S2x16777 1 := ori main_v11 main_v12
  let main_v14 : IVec S2x16777 1 := andi main_v6 main_v13
  main_v14
-- ==== Kernel.lean ====
abbrev S1024x4096 : Shape := ⟨2, ![1024, 4096]⟩
abbrev S16777 : Shape := ⟨1, ![16777]⟩
abbrev S2x16777 : Shape := ⟨2, ![2, 16777]⟩
abbrev S1x16777 : Shape := ⟨2, ![1, 16777]⟩
abbrev S4096x1024 : Shape := ⟨2, ![4096, 1024]⟩
abbrev S4096x8x128 : Shape := ⟨3, ![4096, 8, 128]⟩
abbrev S1 : Shape := ⟨1, ![1]⟩
abbrev S1x8x128 : Shape := ⟨3, ![1, 8, 128]⟩
abbrev S8x128 : Shape := ⟨2, ![8, 128]⟩

abbrev nBuf : Space → Nat
  | .hbm => 12
  | .vmem => 3
  | .smem => 3
  | _ => 0

abbrev bufTy : (tb : Table) → Fin (tcTables nBuf tb) → BufTy
  | .hbm, ⟨0, _⟩ => ⟨S1024x4096, .f32⟩
  | .hbm, ⟨1, _⟩ => ⟨S16777, .f32⟩
  | .hbm, ⟨2, _⟩ => ⟨S2x16777, .i32⟩
  | .hbm, ⟨3, _⟩ => ⟨S1x16777, .i32⟩
  | .hbm, ⟨4, _⟩ => ⟨S16777, .i32⟩
  | .hbm, ⟨5, _⟩ => ⟨S1x16777, .i32⟩
  | .hbm, ⟨6, _⟩ => ⟨S16777, .i32⟩
  | .hbm, ⟨7, _⟩ => ⟨S4096x1024, .f32⟩
  | .hbm, ⟨8, _⟩ => ⟨S4096x8x128, .f32⟩
  | .hbm, ⟨9, _⟩ => ⟨S4096x8x128, .f32⟩
  | .hbm, ⟨10, _⟩ => ⟨S4096x1024, .f32⟩
  | .hbm, ⟨11, _⟩ => ⟨S1024x4096, .f32⟩
  | .local _ .vmem, ⟨0, _⟩ => ⟨S4096x8x128, .f32⟩
  | .local _ .vmem, ⟨1, _⟩ => ⟨S4096x8x128, .f32⟩
  | .local _ .vmem, ⟨2, _⟩ => ⟨S4096x8x128, .f32⟩
  | .local _ .smem, ⟨0, _⟩ => ⟨S16777, .i32⟩
  | .local _ .smem, ⟨1, _⟩ => ⟨S16777, .i32⟩
  | .local _ .smem, ⟨2, _⟩ => ⟨S16777, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg3_0 : Ref sig .tc := ⟨.vmem, 0, rfl⟩
abbrev cc0_stg4_0 : Ref sig .tc := ⟨.vmem, 1, rfl⟩
abbrev cc0_scratch0 : Ref sig .tc := ⟨.vmem, 2, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4096_i32 : BitVec 32 := 4096#32
  let v0 : BitVec 32 := Scalar.addi c0_i32 c4096_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let v34 : Index := Scalar.indexCast arg6
  ![v34.toNat]
def k0_off2 (v35 : BitVec 32) : Fin 3 → Nat :=
  let v36 : Index := Scalar.indexCast v35
  let c0_22 : Index := 0#32
  let c0_23 : Index := 0#32
  ![v36.toNat, 0, 0]

def k0_chk1 (v35 : BitVec 32) : Prop :=
  (∀ a, (k0_off2 v35) a + S1x8x128.size a ≤ S4096x8x128.size a)
theorem k0_off2_inb : ∀ (v35 : BitVec 32) (k0_hw1 : k0_chk1 v35), ∀ a, (k0_off2 v35) a + S1x8x128.size a ≤ S4096x8x128.size a := fun v35 k0_hw1 => k0_hw1

def k0_off3 (k0_t1 : Fin k0_t1_loop.trips) : Fin 1 → Nat :=
  let c0_i32 : BitVec 32 := 0#32
  let c1_i32 : BitVec 32 := 1#32
  let arg6 : BitVec 32 := Scf.iv c0_i32 c1_i32 k0_t1
  let v39 : Index := Scalar.indexCast arg6
  ![v39.toNat]
def k0_off4 (k0_t1 : Fin k0_t1_loop.trips) : Fin 3 → Nat :=
  let c0_i32 : BitVec 32 := 0#32
  let c1_i32 : BitVec 32 := 1#32
  let arg6 : BitVec 32 := Scf.iv c0_i32 c1_i32 k0_t1
  let v44 : Index := Scalar.indexCast arg6
  let c0_24 : Index := 0#32
  let c0_25 : Index := 0#32
  ![v44.toNat, 0, 0]
@[reducible] def k0_t2_loop : Scf.Loop 32 :=
  let c0_i32_3 : BitVec 32 := 0#32
  let c6340_i32 : BitVec 32 := 6340#32
  let v5 : BitVec 32 := Scalar.addi c0_i32_3 c6340_i32
  let c1_i32_4 : BitVec 32 := 1#32
  ⟨c0_i32_3, v5, c1_i32_4⟩
def k0_off5 (k0_t2 : Fin k0_t2_loop.trips) : Fin 1 → Nat :=
  let c4096_i32_22 : BitVec 32 := 4096#32
  let c2_i32 : BitVec 32 := 2#32
  let c0_i32_3 : BitVec 32 := 0#32
  let c1_i32_4 : BitVec 32 := 1#32
  let arg6 : BitVec 32 := Scf.iv c0_i32_3 c1_i32_4 k0_t2
  let v34 : BitVec 32 := Scalar.muli c2_i32 arg6
  let v35 : BitVec 32 := Scalar.addi c4096_i32_22 v34
  let v36 : Index := Scalar.indexCast v35
  ![v36.toNat]
def k0_off6 (v39 : BitVec 32) : Fin 3 → Nat :=
  let v42 : Index := Scalar.indexCast v39
  let c0_23 : Index := 0#32
  let c0_24 : Index := 0#32
  ![v42.toNat, 0, 0]

def k0_off7 (v37 : BitVec 32) : Fin 3 → Nat :=
  let v45 : Index := Scalar.indexCast v37
  let c0_25 : Index := 0#32
  let c0_26 : Index := 0#32
  ![v45.toNat, 0, 0]

def k0_chk3 (v37 : BitVec 32) : Prop :=
  (∀ a, (k0_off7 v37) a + S1x8x128.size a ≤ S4096x8x128.size a)
theorem k0_off7_inb : ∀ (v37 : BitVec 32) (k0_hw3 : k0_chk3 v37), ∀ a, (k0_off7 v37) a + S1x8x128.size a ≤ S4096x8x128.size a := fun v37 k0_hw3 => k0_hw3

def k0_off8 (v39 : BitVec 32) : Fin 3 → Nat :=
  let v52 : Index := Scalar.indexCast v39
  let c0_27 : Index := 0#32
  let c0_28 : Index := 0#32
  ![v52.toNat, 0, 0]

def k0_chk2 (v39 : BitVec 32) : Prop :=
  (∀ a, (k0_off6 v39) a + S1x8x128.size a ≤ S4096x8x128.size a) ∧
  (∀ a, (k0_off8 v39) a + S1x8x128.size a ≤ S4096x8x128.size a)
theorem k0_off6_inb : ∀ (v39 : BitVec 32) (k0_hw2 : k0_chk2 v39), ∀ a, (k0_off6 v39) a + S1x8x128.size a ≤ S4096x8x128.size a := fun v39 k0_hw2 => k0_hw2.1
theorem k0_off8_inb : ∀ (v39 : BitVec 32) (k0_hw2 : k0_chk2 v39), ∀ a, (k0_off8 v39) a + S1x8x128.size a ≤ S4096x8x128.size a := fun v39 k0_hw2 => k0_hw2.2

def k0_off9 (k0_t2 : Fin k0_t2_loop.trips) : Fin 1 → Nat :=
  let c4096_i32_22 : BitVec 32 := 4096#32
  let c2_i32 : BitVec 32 := 2#32
  let c0_i32_3 : BitVec 32 := 0#32
  let c1_i32_4 : BitVec 32 := 1#32
  let arg6 : BitVec 32 := Scf.iv c0_i32_3 c1_i32_4 k0_t2
  let v34 : BitVec 32 := Scalar.muli c2_i32 arg6
  let v35 : BitVec 32 := Scalar.addi c4096_i32_22 v34
  let c1_i32_29 : BitVec 32 := 1#32
  let v56 : BitVec 32 := Scalar.addi v35 c1_i32_29
  let v57 : Index := Scalar.indexCast v56
  ![v57.toNat]
def k0_off10 (v61 : BitVec 32) : Fin 3 → Nat :=
  let v65 : Index := Scalar.indexCast v61
  let c0_32 : Index := 0#32
  let c0_33 : Index := 0#32
  ![v65.toNat, 0, 0]

def k0_off11 (v58 : BitVec 32) : Fin 3 → Nat :=
  let v68 : Index := Scalar.indexCast v58
  let c0_34 : Index := 0#32
  let c0_35 : Index := 0#32
  ![v68.toNat, 0, 0]

def k0_chk5 (v58 : BitVec 32) : Prop :=
  (∀ a, (k0_off11 v58) a + S1x8x128.size a ≤ S4096x8x128.size a)
theorem k0_off11_inb : ∀ (v58 : BitVec 32) (k0_hw5 : k0_chk5 v58), ∀ a, (k0_off11 v58) a + S1x8x128.size a ≤ S4096x8x128.size a := fun v58 k0_hw5 => k0_hw5

def k0_off12 (v61 : BitVec 32) : Fin 3 → Nat :=
  let v75 : Index := Scalar.indexCast v61
  let c0_36 : Index := 0#32
  let c0_37 : Index := 0#32
  ![v75.toNat, 0, 0]

def k0_chk4 (v61 : BitVec 32) : Prop :=
  (∀ a, (k0_off10 v61) a + S1x8x128.size a ≤ S4096x8x128.size a) ∧
  (∀ a, (k0_off12 v61) a + S1x8x128.size a ≤ S4096x8x128.size a)
theorem k0_off10_inb : ∀ (v61 : BitVec 32) (k0_hw4 : k0_chk4 v61), ∀ a, (k0_off10 v61) a + S1x8x128.size a ≤ S4096x8x128.size a := fun v61 k0_hw4 => k0_hw4.1
theorem k0_off12_inb : ∀ (v61 : BitVec 32) (k0_hw4 : k0_chk4 v61), ∀ a, (k0_off12 v61) a + S1x8x128.size a ≤ S4096x8x128.size a := fun v61 k0_hw4 => k0_hw4.2

def k0_off13 (v7 : BitVec 32) : Fin 3 → Nat :=
  let v8 : Index := Scalar.indexCast v7
  let c0_6 : Index := 0#32
  let c0_7 : Index := 0#32
  ![v8.toNat, 0, 0]

def k0_chk6 (v7 : BitVec 32) : Prop :=
  (∀ a, (k0_off13 v7) a + S1x8x128.size a ≤ S4096x8x128.size a)
theorem k0_off13_inb : ∀ (v7 : BitVec 32) (k0_hw6 : k0_chk6 v7), ∀ a, (k0_off13 v7) a + S1x8x128.size a ≤ S4096x8x128.size a := fun v7 k0_hw6 => k0_hw6

def k0_off14 (v12 : BitVec 32) : Fin 3 → Nat :=
  let v13 : Index := Scalar.indexCast v12
  let c0_8 : Index := 0#32
  let c0_9 : Index := 0#32
  ![v13.toNat, 0, 0]

def k0_chk7 (v12 : BitVec 32) : Prop :=
  (∀ a, (k0_off14 v12) a + S1x8x128.size a ≤ S4096x8x128.size a)
theorem k0_off14_inb : ∀ (v12 : BitVec 32) (k0_hw7 : k0_chk7 v12), ∀ a, (k0_off14 v12) a + S1x8x128.size a ≤ S4096x8x128.size a := fun v12 k0_hw7 => k0_hw7

def k0_off15 (v23 : BitVec 32) : Fin 3 → Nat :=
  let v24 : Index := Scalar.indexCast v23
  let c0_10 : Index := 0#32
  let c0_11 : Index := 0#32
  ![v24.toNat, 0, 0]

def k0_chk8 (v23 : BitVec 32) : Prop :=
  (∀ a, (k0_off15 v23) a + S1x8x128.size a ≤ S4096x8x128.size a)
theorem k0_off15_inb : ∀ (v23 : BitVec 32) (k0_hw8 : k0_chk8 v23), ∀ a, (k0_off15 v23) a + S1x8x128.size a ≤ S4096x8x128.size a := fun v23 k0_hw8 => k0_hw8

abbrev stage0_0 : Fin 1 → Memref sig .tc .smem S16777 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16777 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16777 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x4096 : Shape := ⟨2, ![1024, 4096]⟩
abbrev S16777 : Shape := ⟨1, ![16777]⟩
abbrev S2x16777 : Shape := ⟨2, ![2, 16777]⟩
abbrev S1x16777 : Shape := ⟨2, ![1, 16777]⟩
abbrev S_ : Shape := ⟨0, ![]⟩
abbrev S16777x1 : Shape := ⟨2, ![16777, 1]⟩
abbrev S1024x16777 : Shape := ⟨2, ![1024, 16777]⟩
abbrev S16777x1024 : Shape := ⟨2, ![16777, 1024]⟩
abbrev S4096x1024 : Shape := ⟨2, ![4096, 1024]⟩
abbrev S1 : Shape := ⟨1, ![1]⟩
abbrev S1x1024 : Shape := ⟨2, ![1, 1024]⟩
abbrev S1024 : Shape := ⟨1, ![1024]⟩

abbrev nBuf : Space → Nat
  | .hbm => 129
  | .vmem => 0
  | .smem => 0
  | _ => 0

abbrev hbmTy0_0 (i : Nat) : BufTy := match i % 128 with
  | 0 => ⟨S1024x4096, .f32⟩
  | 1 => ⟨S16777, .f32⟩
  | 2 => ⟨S2x16777, .i32⟩
  | 3 => ⟨S1x16777, .i32⟩
  | 4 => ⟨S16777, .i32⟩
  | 5 => ⟨S1x16777, .i32⟩
  | 6 => ⟨S16777, .i32⟩
  | 7 => ⟨S_, .i32⟩
  | 8 => ⟨S16777, .i32⟩
  | 9 => ⟨S16777, .i1⟩
  | 10 => ⟨S_, .i32⟩
  | 11 => ⟨S16777, .i32⟩
  | 12 => ⟨S16777, .i32⟩
  | 13 => ⟨S16777, .i32⟩
  | 14 => ⟨S16777x1, .i32⟩
  | 15 => ⟨S1024x16777, .f32⟩
  | 16 => ⟨S16777x1024, .f32⟩
  | 17 => ⟨S16777x1, .f32⟩
  | 18 => ⟨S16777x1024, .f32⟩
  | 19 => ⟨S16777x1024, .f32⟩
  | 20 => ⟨S_, .f32⟩
  | 21 => ⟨S4096x1024, .f32⟩
  | 22 => ⟨S_, .i32⟩
  | 23 => ⟨S_, .i32⟩
  | 24 => ⟨S16777, .i32⟩
  | 25 => ⟨S16777x1024, .f32⟩
  | 26 => ⟨S_, .i32⟩
  | 27 => ⟨S_, .i32⟩
  | 28 => ⟨S4096x1024, .f32⟩
  | 29 => ⟨S_, .i32⟩
  | 30 => ⟨S_, .i1⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S1, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S1x1024, .f32⟩
  | 63 => ⟨S1024, .f32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S1x1024, .f32⟩
  | 79 => ⟨S1024, .f32⟩
  | 80 => ⟨S1024, .f32⟩
  | 81 => ⟨S_, .i32⟩
  | 82 => ⟨S_, .i1⟩
  | 83 => ⟨S_, .i32⟩
  | 84 => ⟨S_, .i32⟩
  | 85 => ⟨S_, .i32⟩
  | 86 => ⟨S1, .i32⟩
  | 87 => ⟨S4096x1024, .f32⟩
  | 88 => ⟨S_, .i32⟩
  | 89 => ⟨S_, .i32⟩
  | 90 => ⟨S_, .f32⟩
  | 91 => ⟨S4096x1024, .f32⟩
  | 92 => ⟨S4096x1024, .i1⟩
  | 93 => ⟨S_, .f32⟩
  | 94 => ⟨S4096x1024, .f32⟩
  | 95 => ⟨S4096x1024, .i1⟩
  | 96 => ⟨S4096x1024, .i1⟩
  | 97 => ⟨S_, .f32⟩
  | 98 => ⟨S_, .f32⟩
  | 99 => ⟨S4096x1024, .f32⟩
  | 100 => ⟨S4096x1024, .f32⟩
  | 101 => ⟨S_, .i32⟩
  | 102 => ⟨S16777, .i32⟩
  | 103 => ⟨S16777, .i1⟩
  | 104 => ⟨S_, .i32⟩
  | 105 => ⟨S16777, .i32⟩
  | 106 => ⟨S16777, .i32⟩
  | 107 => ⟨S16777, .i32⟩
  | 108 => ⟨S16777x1, .i32⟩
  | 109 => ⟨S16777x1024, .f32⟩
  | 110 => ⟨S16777x1024, .f32⟩
  | 111 => ⟨S16777x1024, .f32⟩
  | 112 => ⟨S_, .f32⟩
  | 113 => ⟨S4096x1024, .f32⟩
  | 114 => ⟨S16777x1, .i32⟩
  | 115 => ⟨S4096x1024, .f32⟩
  | 116 => ⟨S_, .f32⟩
  | 117 => ⟨S4096x1024, .f32⟩
  | 118 => ⟨S4096x1024, .i1⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S_, .f32⟩
  | 125 => ⟨S_, .f32⟩
  | 126 => ⟨S4096x1024, .f32⟩
  | 127 => ⟨S4096x1024, .f32⟩
  | _ => ⟨S1024x4096, .f32⟩

abbrev hbmTy0_1 (i : Nat) : BufTy := match i % 128 with
  | 0 => ⟨S1024x4096, .f32⟩
  | _ => ⟨S1024x4096, .f32⟩

abbrev hbmTy (i : Nat) : BufTy := match i / 128 with
  | 0 => hbmTy0_0 i
  | 1 => hbmTy0_1 i
  | _ => ⟨S1024x4096, .f32⟩

abbrev bufTy : (tb : Table) → Fin (tcTables nBuf tb) → BufTy
  | .hbm, ⟨i, _⟩ => hbmTy i
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_c_1 : Ref sig .tc := ⟨.hbm, 22, rfl⟩
abbrev main_c_2 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_while0c_c_16 : Ref sig .tc := ⟨.hbm, 29, rfl⟩
abbrev main_while0c_v43 : Ref sig .tc := ⟨.hbm, 30, rfl⟩
abbrev main_while0b_c_16 : Ref sig .tc := ⟨.hbm, 31, rfl⟩
abbrev main_while0b_v43 : Ref sig .tc := ⟨.hbm, 32, rfl⟩
abbrev main_while0b_c_17 : Ref sig .tc := ⟨.hbm, 33, rfl⟩
abbrev main_while0b_v44 : Ref sig .tc := ⟨.hbm, 34, rfl⟩
abbrev main_while0b_v45 : Ref sig .tc := ⟨.hbm, 35, rfl⟩
abbrev main_while0b_c_18 : Ref sig .tc := ⟨.hbm, 36, rfl⟩
abbrev main_while0b_v46 : Ref sig .tc := ⟨.hbm, 37, rfl⟩
abbrev main_while0b_v47 : Ref sig .tc := ⟨.hbm, 38, rfl⟩
abbrev main_while0b_v48 : Ref sig .tc := ⟨.hbm, 39, rfl⟩
abbrev main_while0b_v49 : Ref sig .tc := ⟨.hbm, 40, rfl⟩
abbrev main_while0b_c_19 : Ref sig .tc := ⟨.hbm, 41, rfl⟩
abbrev main_while0b_v50 : Ref sig .tc := ⟨.hbm, 42, rfl⟩
abbrev main_while0b_v51 : Ref sig .tc := ⟨.hbm, 43, rfl⟩
abbrev main_while0b_c_20 : Ref sig .tc := ⟨.hbm, 44, rfl⟩
abbrev main_while0b_v52 : Ref sig .tc := ⟨.hbm, 45, rfl⟩
abbrev main_while0b_v53 : Ref sig .tc := ⟨.hbm, 46, rfl⟩
abbrev main_while0b_v54 : Ref sig .tc := ⟨.hbm, 47, rfl⟩
abbrev main_while0b_v55 : Ref sig .tc := ⟨.hbm, 48, rfl⟩
abbrev main_while0b_c_21 : Ref sig .tc := ⟨.hbm, 49, rfl⟩
abbrev main_while0b_v56 : Ref sig .tc := ⟨.hbm, 50, rfl⟩
abbrev main_while0b_c_22 : Ref sig .tc := ⟨.hbm, 51, rfl⟩
abbrev main_while0b_v57 : Ref sig .tc := ⟨.hbm, 52, rfl⟩
abbrev main_while0b_v58 : Ref sig .tc := ⟨.hbm, 53, rfl⟩
abbrev main_while0b_c_23 : Ref sig .tc := ⟨.hbm, 54, rfl⟩
abbrev main_while0b_c_24 : Ref sig .tc := ⟨.hbm, 55, rfl⟩
abbrev main_while0b_v59 : Ref sig .tc := ⟨.hbm, 56, rfl⟩
abbrev main_while0b_c_25 : Ref sig .tc := ⟨.hbm, 57, rfl⟩
abbrev main_while0b_c_26 : Ref sig .tc := ⟨.hbm, 58, rfl⟩
abbrev main_while0b_v60 : Ref sig .tc := ⟨.hbm, 59, rfl⟩
abbrev main_while0b_c_27 : Ref sig .tc := ⟨.hbm, 60, rfl⟩
abbrev main_while0b_v61 : Ref sig .tc := ⟨.hbm, 61, rfl⟩
abbrev main_while0b_v62 : Ref sig .tc := ⟨.hbm, 62, rfl⟩
abbrev main_while0b_v63 : Ref sig .tc := ⟨.hbm, 63, rfl⟩
abbrev main_while0b_v64 : Ref sig .tc := ⟨.hbm, 64, rfl⟩
abbrev main_while0b_c_28 : Ref sig .tc := ⟨.hbm, 65, rfl⟩
abbrev main_while0b_v65 : Ref sig .tc := ⟨.hbm, 66, rfl⟩
abbrev main_while0b_c_29 : Ref sig .tc := ⟨.hbm, 67, rfl⟩
abbrev main_while0b_v66 : Ref sig .tc := ⟨.hbm, 68, rfl⟩
abbrev main_while0b_v67 : Ref sig .tc := ⟨.hbm, 69, rfl⟩
abbrev main_while0b_c_30 : Ref sig .tc := ⟨.hbm, 70, rfl⟩
abbrev main_while0b_c_31 : Ref sig .tc := ⟨.hbm, 71, rfl⟩
abbrev main_while0b_v68 : Ref sig .tc := ⟨.hbm, 72, rfl⟩
abbrev main_while0b_c_32 : Ref sig .tc := ⟨.hbm, 73, rfl⟩
abbrev main_while0b_c_33 : Ref sig .tc := ⟨.hbm, 74, rfl⟩
abbrev main_while0b_v69 : Ref sig .tc := ⟨.hbm, 75, rfl⟩
abbrev main_while0b_c_34 : Ref sig .tc := ⟨.hbm, 76, rfl⟩
abbrev main_while0b_v70 : Ref sig .tc := ⟨.hbm, 77, rfl⟩
abbrev main_while0b_v71 : Ref sig .tc := ⟨.hbm, 78, rfl⟩
abbrev main_while0b_v72 : Ref sig .tc := ⟨.hbm, 79, rfl⟩
abbrev main_while0b_v73 : Ref sig .tc := ⟨.hbm, 80, rfl⟩
abbrev main_while0b_c_35 : Ref sig .tc := ⟨.hbm, 81, rfl⟩
abbrev main_while0b_v74 : Ref sig .tc := ⟨.hbm, 82, rfl⟩
abbrev main_while0b_c_36 : Ref sig .tc := ⟨.hbm, 83, rfl⟩
abbrev main_while0b_v75 : Ref sig .tc := ⟨.hbm, 84, rfl⟩
abbrev main_while0b_v76 : Ref sig .tc := ⟨.hbm, 85, rfl⟩
abbrev main_while0b_v77 : Ref sig .tc := ⟨.hbm, 86, rfl⟩
abbrev main_while0b_v78 : Ref sig .tc := ⟨.hbm, 87, rfl⟩
abbrev main_while0b_c_37 : Ref sig .tc := ⟨.hbm, 88, rfl⟩
abbrev main_while0b_v79 : Ref sig .tc := ⟨.hbm, 89, rfl⟩
abbrev main_cst_3 : Ref sig .tc := ⟨.hbm, 90, rfl⟩
abbrev main_v17 : Ref sig .tc := ⟨.hbm, 91, rfl⟩
abbrev main_v18 : Ref sig .tc := ⟨.hbm, 92, rfl⟩
abbrev main_cst_4 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_cst_5 : Ref sig .tc := ⟨.hbm, 97, rfl⟩
abbrev main_call0_v0 : Ref sig .tc := ⟨.hbm, 98, rfl⟩
abbrev main_call0_v1 : Ref sig .tc := ⟨.hbm, 99, rfl⟩
abbrev main_v22 : Ref sig .tc := ⟨.hbm, 100, rfl⟩
abbrev main_c_6 : Ref sig .tc := ⟨.hbm, 101, rfl⟩
abbrev main_v23 : Ref sig .tc := ⟨.hbm, 102, rfl⟩
abbrev main_v24 : Ref sig .tc := ⟨.hbm, 103, rfl⟩
abbrev main_c_7 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst_8 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_cst_9 : Ref sig .tc := ⟨.hbm, 116, rfl⟩
abbrev main_v35 : Ref sig .tc := ⟨.hbm, 117, rfl⟩
abbrev main_v36 : Ref sig .tc := ⟨.hbm, 118, rfl⟩
abbrev main_cst_10 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_cst_11 : Ref sig .tc := ⟨.hbm, 124, rfl⟩
abbrev main_call1_v0 : Ref sig .tc := ⟨.hbm, 125, rfl⟩
abbrev main_call1_v1 : Ref sig .tc := ⟨.hbm, 126, rfl⟩
abbrev main_v41 : Ref sig .tc := ⟨.hbm, 127, rfl⟩
abbrev main_v42 : Ref sig .tc := ⟨.hbm, 128, rfl⟩

abbrev nD : Nat := 1
abbrev τ : Topo := Topo.v7x

variable {F : FTy → Type} [FloatOps F]

abbrev main_while0_count : Scf.Loop 32 := ⟨0#32, 16777#32, 1#32⟩
-- ==== Proof.Rows.lean ====
/-
  ROWS OF A BLOCK, as plain functions: word `k` of an index array, row `r` of a 4096-row block, a block with one row
  overwritten, and what the kernel's loads and stores of one row are in these terms.
-/
module

public import proofs.«01_k».proof.Proof.Gen.KernelIdeal.Frame
public import proofs.«01_k».proof.Proof.Gen.KernelIdeal.Loops
public import Idealize.ShloMosaic.Lib.VecWindow
public import Idealize.ShloMosaic.Lib.Pointwise

@[expose] public section

noncomputable section

namespace Cert.KernelIdeal.Seg

open Idealize.ShloMosaic
open Cert.KernelIdeal

/-- Entry `k` of an array of 16777 entries (the position taken modulo the extent, so that any natural names one). -/
def at1 {α : Type} (x : S16777.Idx → α) (k : ℕ) : α := x (ix1 ⟨k % 16777, Nat.mod_lt _ (by decide)⟩)

/-- Row `r` of a block of 4096 rows, as a one-row block (again modulo the extent). -/
def row {α : Type} (x : S4096x8x128.Idx → α) (r : ℕ) : S1x8x128.Idx → α :=
  fun j => x (ix3 ⟨r % 4096, Nat.mod_lt _ (by decide)⟩ (j 1) (j 2))

/-- The block `A` with row `r` overwritten by `v`. -/
def setRow {α : Type} (A : S4096x8x128.Idx → α) (r : ℕ) (v : S1x8x128.Idx → α) : S4096x8x128.Idx → α :=
  fun y => if (y 0).val = r then v (ix3 0 (y 1) (y 2)) else A y

/-- The window of one row at row offset `r` is that row. -/
theorem window_row {α : Type} (x : S4096x8x128.Idx → α) (r : ℕ) (hr : r < 4096)
    (inb : ∀ a, (![r, 0, 0] : Fin 3 → ℕ) a + S1x8x128.size a ≤ S4096x8x128.size a) :
    VecWindow.window x ![r, 0, 0] S1x8x128.size inb = row x r := by
  funext j
  refine congrArg x (funext fun a => Fin.ext ?_)
  have h0 : (j 0).val < 1 := (j 0).isLt
  match a with
  | ⟨0, _⟩ => show r + 1 * (j 0).val = r % 4096; rw [Nat.mod_eq_of_lt hr]; omega
  | ⟨1, _⟩ => show 0 + 1 * (j 1).val = (j 1).val; omega
  | ⟨2, _⟩ => show 0 + 1 * (j 2).val = (j 2).val; omega

/-- Putting one row at row offset `r` is `setRow`. -/
theorem put_row {α : Type} (x : S4096x8x128.Idx → α) (r : ℕ) (w : S1x8x128.Idx → α) :
    VecWindow.put x ![r, 0, 0] S1x8x128.size w = setRow x r w := by
  funext y
  have h1 : (y 1).val < 8 := (y 1).isLt
  have h2 : (y 2).val < 128 := (y 2).isLt
  unfold VecWindow.put setRow
  by_cases h : (y 0).val = r
  · rw [if_pos h, dif_pos]
    · refine congrArg w (funext fun a => Fin.ext ?_)
      match a with
      | ⟨0, _⟩ => show (y 0).val - r = 0; omega
      | ⟨1, _⟩ => show (y 1).val - 0 = (y 1).val; omega
      | ⟨2, _⟩ => show (y 2).val - 0 = (y 2).val; omega
    · intro a
      match a with
      | ⟨0, _⟩ => show r ≤ (y 0).val ∧ (y 0).val < r + 1; omega
      | ⟨1, _⟩ => show 0 ≤ (y 1).val ∧ (y 1).val < 0 + 8; omega
      | ⟨2, _⟩ => show 0 ≤ (y 2).val ∧ (y 2).val < 0 + 128; omega
  · rw [if_neg h, dif_neg]
    intro hall
    have := hall 0
    have e : r ≤ (y 0).val ∧ (y 0).val < r + 1 := this
    omega

section Reads
variable {Val : EltTy → Type} {κ : Kind} {sp : Space} {e : EltTy}

/-- A load of one row at offsets that are row `r`. -/
theorem readAt_row (v : View sig κ sp S4096x8x128 e) (f : v.ty.Contents Val) {off : Fin 3 → ℕ}
    (inb : ∀ a, off a + S1x8x128.size a ≤ S4096x8x128.size a) {r : ℕ} (h : off = ![r, 0, 0]) (hr : r < 4096) :
    v.readAt Val (Rect.unit (s := S4096x8x128) off S1x8x128.size inb).toLoadRect f = row (v.read Val f) r := by
  subst h
  rw [View.readAt_unit v f inb rfl inb, window_row _ r hr]

/-- A store of one row at offsets that are row `r`. -/
theorem read_store_row (v : View sig κ sp S4096x8x128 e) (f : v.ty.Contents Val) {off : Fin 3 → ℕ}
    (inb : ∀ a, off a + S1x8x128.size a ≤ S4096x8x128.size a) (w : S1x8x128.Idx → Val e) (L : List (View.Piece Val S4096x8x128 e))
    {r : ℕ} (h : off = ![r, 0, 0]) :
    v.read Val (v.writes Val f (⟨Rect.unit (s := S4096x8x128) off S1x8x128.size inb, w⟩ :: L)) = setRow (v.read Val (v.writes Val f L)) r w := by
  rw [View.read_writes_cons_put v f inb w L h]
  exact put_row _ _ _

/-- A load of one entry at offset `k`. -/
theorem readAt_entry (v : View sig κ sp S16777 e) (f : v.ty.Contents Val) {off : Fin 1 → ℕ}
    (inb : ∀ a, off a + S1.size a ≤ S16777.size a) {k : ℕ} (h : off = ![k]) (hk : k < 16777) (j : S1.Idx) :
    v.readAt Val (Rect.unit (s := S16777) off S1.size inb).toLoadRect f j = at1 (v.read Val f) k := by
  subst h
  rw [View.readAt_unit v f inb rfl inb]
  refine congrArg (v.read Val f) (funext fun a => Fin.ext ?_)
  have h0 : (j 0).val < 1 := (j 0).isLt
  match a with
  | ⟨0, _⟩ => show k + 1 * (j 0).val = k % 16777; rw [Nat.mod_eq_of_lt hk]; omega

end Reads

/-- A row number below 4096 keeps one row inside the block. -/
theorem row_inb {off : Fin 3 → ℕ} {r : ℕ} (h : off = ![r, 0, 0]) (hr : r < 4096) :
    ∀ a, off a + S1x8x128.size a ≤ S4096x8x128.size a := by
  subst h
  intro a
  match a with
  | ⟨0, _⟩ => show r + 1 ≤ 4096; omega
  | ⟨1, _⟩ => show 0 + 8 ≤ 8; omega
  | ⟨2, _⟩ => show 0 + 128 ≤ 128; omega

theorem off2_eq (w : BitVec 32) : k0_off2 w = ![w.toNat, 0, 0] := rfl
theorem off6_eq (w : BitVec 32) : k0_off6 w = ![w.toNat, 0, 0] := rfl
theorem off7_eq (w : BitVec 32) : k0_off7 w = ![w.toNat, 0, 0] := rfl
theorem off8_eq (w : BitVec 32) : k0_off8 w = ![w.toNat, 0, 0] := rfl
theorem off10_eq (w : BitVec 32) : k0_off10 w = ![w.toNat, 0, 0] := rfl
theorem off11_eq (w : BitVec 32) : k0_off11 w = ![w.toNat, 0, 0] := rfl
theorem off12_eq (w : BitVec 32) : k0_off12 w = ![w.toNat, 0, 0] := rfl
theorem off13_eq (w : BitVec 32) : k0_off13 w = ![w.toNat, 0, 0] := rfl
theorem off14_eq (w : BitVec 32) : k0_off14 w = ![w.toNat, 0, 0] := rfl
theorem off15_eq (w : BitVec 32) : k0_off15 w = ![w.toNat, 0, 0] := rfl

theorem trips1 : k0_t1_loop.trips = 4096 := by decide +kernel
theorem trips2 : k0_t2_loop.trips = 6340 := by decide +kernel

end Cert.KernelIdeal.Seg

end
-- ==== Proof.Body.lean ====
/-
  THE KERNEL'S BODY AS A FUNCTION of its four inputs: what its result buffer ends holding, the two counted loops by
  invariants that say what their buffers read as.
-/
module

public import proofs.«01_k».proof.Proof.Rows

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Pure
variable (x0 x1 : Vec F S16777 .i32) (x2 : Vec F S16777 .f32) (x3 : Vec F S4096x8x128 .f32)

/-- The exponentials of nonzero `k`: of row `x0 k` of `x3` plus `x2 k`. -/
def expRow (k : ℕ) : FVec F S1x8x128 .f32 := k0_pay5 (row x3 (at1 x0 k).toNat) (at1 x2 k)

/-- What the first loop fills the result buffer with: row `k` the exponentials of nonzero `k`. -/
def filled : Vec F S4096x8x128 .f32 := fun y => expRow x0 x2 x3 (y 0).val (ix3 0 (y 1) (y 2))

/-- Nonzero `k` accumulated into the block `A`, at row `x1 k`. -/
def addRow (A : Vec F S4096x8x128 .f32) (k : ℕ) : Vec F S4096x8x128 .f32 :=
  setRow A (at1 x1 k).toNat (k0_pay2 (at1 x2 k) (row A (at1 x1 k).toNat) (row x3 (at1 x0 k).toNat))

/-- The result buffer after `i` trips of the second loop: nonzeros 4096, 4098, … accumulated. -/
def evens : ℕ → Vec F S4096x8x128 .f32
  | 0 => filled x0 x2 x3
  | i + 1 => addRow x0 x1 x2 x3 (evens i) (2 * i + 4096)

/-- The second accumulator after `i` trips of the second loop: nonzeros 4097, 4099, … accumulated. -/
def odds : ℕ → Vec F S4096x8x128 .f32
  | 0 => k0_pay6
  | i + 1 => addRow x0 x1 x2 x3 (odds i) (2 * i + 4097)

/-- What the body leaves in the result buffer. -/
def result : Vec F S4096x8x128 .f32 :=
  k0_pay1 (k0_pay9 (addRow x0 x1 x2 x3 (evens x0 x1 x2 x3 6340) 16776)) (odds x0 x1 x2 x3 6340)

end Pure

section Steps
variable (x0 x1 : Vec F S16777 .i32) (x2 : Vec F S16777 .f32) (x3 : Vec F S4096x8x128 .f32) {sp sp' : Space}

/-- One trip of the first loop, on what the buffer reads: row `k` set to the exponentials of nonzero `k`. -/
theorem store_fill (v : View sig .tc sp S4096x8x128 .f32) (f : v.ty.Contents (Elt F)) (v3 : View sig .tc sp' S4096x8x128 .f32)
    (f3 : v3.ty.Contents (Elt F)) {off off3 : Fin 3 → ℕ} (inb : ∀ a, off a + S1x8x128.size a ≤ S4096x8x128.size a)
    (inb3 : ∀ a, off3 a + S1x8x128.size a ≤ S4096x8x128.size a) {k : ℕ} {w : BitVec 32} {a : F .f32}
    (h : off = ![k, 0, 0]) (h3 : off3 = ![w.toNat, 0, 0]) (hr : (at1 x0 k).toNat < 4096)
    (hw : w = at1 x0 k) (ha : a = at1 x2 k) (hf3 : v3.read (Elt F) f3 = x3) :
    v.read (Elt F) (v.writes (Elt F) f [⟨Rect.unit (s := S4096x8x128) off S1x8x128.size inb,
        k0_pay5 (v3.readAt (Elt F) (Rect.unit (s := S4096x8x128) off3 S1x8x128.size inb3).toLoadRect f3) a⟩])
      = setRow (v.read (Elt F) f) k (expRow x0 x2 x3 k) := by
  subst hw ha
  rw [read_store_row v f inb _ [] h, View.writes_nil, readAt_row v3 f3 inb3 h3 hr, hf3]
  rfl

/-- One accumulation of the second loop, on what the buffer reads: nonzero `k` accumulated. -/
theorem store_add (v : View sig .tc sp S4096x8x128 .f32) (f : v.ty.Contents (Elt F)) (v3 : View sig .tc sp' S4096x8x128 .f32)
    (f3 : v3.ty.Contents (Elt F)) {off off' off3 : Fin 3 → ℕ} (inb : ∀ a, off a + S1x8x128.size a ≤ S4096x8x128.size a)
    (inb' : ∀ a, off' a + S1x8x128.size a ≤ S4096x8x128.size a)
    (inb3 : ∀ a, off3 a + S1x8x128.size a ≤ S4096x8x128.size a) {k : ℕ} {w z z' : BitVec 32} {a : F .f32}
    (h : off = ![z.toNat, 0, 0]) (h' : off' = ![z'.toNat, 0, 0]) (h3 : off3 = ![w.toNat, 0, 0])
    (hr : (at1 x0 k).toNat < 4096) (hc : (at1 x1 k).toNat < 4096)
    (hw : w = at1 x0 k) (hz : z = at1 x1 k) (hz' : z' = at1 x1 k) (ha : a = at1 x2 k) (hf3 : v3.read (Elt F) f3 = x3) :
    v.read (Elt F) (v.writes (Elt F) f [⟨Rect.unit (s := S4096x8x128) off S1x8x128.size inb,
        k0_pay2 a (v.readAt (Elt F) (Rect.unit (s := S4096x8x128) off' S1x8x128.size inb').toLoadRect f)
          (v3.readAt (Elt F) (Rect.unit (s := S4096x8x128) off3 S1x8x128.size inb3).toLoadRect f3)⟩])
      = addRow x0 x1 x2 x3 (v.read (Elt F) f) k := by
  subst hw hz hz' ha
  rw [read_store_row v f inb _ [] h, View.writes_nil, readAt_row v3 f3 inb3 h3 hr, readAt_row v f inb' h' hc, hf3]
  rfl

end Steps

set_option maxHeartbeats 4000000 in
/-- The body's triple. -/
theorem body_run (c : Dev nD) (arg0 : Memref sig .tc .smem S16777 .i32) (harg0 : arg0.IsWhole)
    (arg1 : Memref sig .tc .smem S16777 .i32) (harg1 : arg1.IsWhole) (arg2 : Memref sig .tc .smem S16777 .f32) (harg2 : arg2.IsWhole)
    (arg3 : Memref sig .tc .vmem S4096x8x128 .f32) (harg3 : arg3.IsWhole) (arg4 : Memref sig .tc .vmem S4096x8x128 .f32) (harg4 : arg4.IsWhole)
    (arg5 : Memref sig .tc .vmem S4096x8x128 .f32) (harg5 : arg5.IsWhole)
    (x0 x1 : Vec F S16777 .i32) (x2 : Vec F S16777 .f32) (x3 : Vec F S4096x8x128 .f32)
    (hr : ∀ k, (at1 x0 k).toNat < 4096) (hc : ∀ k, (at1 x1 k).toNat < 4096) (E : Set ℕ) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (result x0 x1 x2 x3)
            ∗ (∃ d, owns (c : Thread nD τ) arg5 fullShare d)) -∗ K ⟨⟩))
      ⊢ wp frame (wpE (defs₀ (F := F)) Variants.none c none) E
          (cc0__seg_logsumexp_kernel arg0 harg0 arg1 harg1 arg2 harg2 arg3 harg3 arg4 harg4 arg5 harg5) K := by
  have hx0 : arg0.view.read (Elt F) (harg0.unread x0) = x0 := harg0.read_unread _
  have hx1 : arg1.view.read (Elt F) (harg1.unread x1) = x1 := harg1.read_unread _
  have hx2 : arg2.view.read (Elt F) (harg2.unread x2) = x2 := harg2.read_unread _
  have hx3 : arg3.view.read (Elt F) (harg3.unread x3) = x3 := harg3.read_unread _
  simp only [cc0__seg_logsumexp_kernel_eq_skeleton]; unfold cc0__seg_logsumexp_kernel_skel
  simp only [k0_part2_eq_skeleton]; unfold k0_part2_skel
  simp only [bind_assoc]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg0.eq_unread hf0; obtain rfl := harg1.eq_unread hf1; obtain rfl := harg2.eq_unread hf2; obtain rfl := harg3.eq_unread hf3
  sl_for (fun (k : ℕ) (_ : PUnit) => iprop(
      (arg0.view.loc (c : Thread nD τ) ↦[arg0.view.set]{fullShare} harg0.unread x0)
      ∗ (arg2.view.loc (c : Thread nD τ) ↦[arg2.view.set]{fullShare} harg2.unread x2)
      ∗ (arg3.view.loc (c : Thread nD τ) ↦[arg3.view.set]{fullShare} harg3.unread x3)
      ∗ (∃ f, (arg4.view.loc (c : Thread nD τ) ↦[arg4.view.set]{fullShare} f)
          ∗ ⌜∀ y : S4096x8x128.Idx, (y 0).val < k → arg4.view.read (Elt F) f y = filled x0 x2 x3 y⌝))) $$ [H0 H2 H3 H4]
  · intro k acc
    iintro ⟨H0, H2, H3, ⟨%f, H4, %hf⟩⟩
    have hk : k.val < 4096 := Nat.lt_of_lt_of_le k.isLt k0_t1_abs.2.1
    have e0 := readAt_entry (Val := Elt F) arg0.view (harg0.unread x0) (k0_off1_inb k) (k0_off1_eq k) (by omega) (Shape.Idx.first (numel1_S1.symm ▸ Nat.one_pos))
    have e2 := readAt_entry (Val := Elt F) arg2.view (harg2.unread x2) (k0_off3_inb k) (k0_off3_eq k) (by omega) (Shape.Idx.first (numel1_S1.symm ▸ Nat.one_pos))
    rw [hx0] at e0
    rw [hx2] at e2
    have w1 : k0_chk1 (arg0.view.readAt (Elt F) (Rect.unit (s := S16777) (k0_off1 k) S1.size (k0_off1_inb k)).toLoadRect (harg0.unread x0) (Shape.Idx.first (numel1_S1.symm ▸ Nat.one_pos))) :=
      row_inb (off2_eq _) (by rw [e0]; exact hr _)
    sl_exec
    sl_step
    isplitl [H0]; · iexact H0
    isplitl [H2]; · iexact H2
    isplitl [H3]; · iexact H3
    iexists _; isplitl [H4]; · iexact H4
    ipureintro
    intro y hy
    refine (congrFun (store_fill x0 x2 x3 arg4.view f arg3.view _ (k0_off4_inb k) _ (k0_off4_eq k) (off2_eq _) (hr _) e0 e2 hx3) y).trans ?_
    unfold setRow
    split
    · rename_i h; unfold filled expRow; rw [h]
    · exact hf y (by omega)
  · isplitl [H0]; · iexact H0
    isplitl [H2]; · iexact H2
    isplitl [H3]; · iexact H3
    iexists _; isplitl [H4]; · iexact H4
    ipureintro
    intro y hy; omega
  iintro %acc ⟨H0, H2, H3, ⟨%f, H4, %hf⟩⟩
  have hfill : arg4.view.read (Elt F) f = filled x0 x2 x3 := funext fun y => hf y (by
    have h := (y 0).isLt
    rw [show Scf.trips k0_t1_loop.lb k0_t1_loop.ub k0_t1_loop.st = 4096 from trips1]
    exact h)
  sl_exec
  sl_for (fun (k : ℕ) (_ : PUnit) => iprop(
      (arg0.view.loc (c : Thread nD τ) ↦[arg0.view.set]{fullShare} harg0.unread x0)
      ∗ (arg1.view.loc (c : Thread nD τ) ↦[arg1.view.set]{fullShare} harg1.unread x1)
      ∗ (arg2.view.loc (c : Thread nD τ) ↦[arg2.view.set]{fullShare} harg2.unread x2)
      ∗ (arg3.view.loc (c : Thread nD τ) ↦[arg3.view.set]{fullShare} harg3.unread x3)
      ∗ (∃ f, (arg4.view.loc (c : Thread nD τ) ↦[arg4.view.set]{fullShare} f)
          ∗ ⌜arg4.view.read (Elt F) f = evens x0 x1 x2 x3 k⌝)
      ∗ (∃ f, (arg5.view.loc (c : Thread nD τ) ↦[arg5.view.set]{fullShare} f)
          ∗ ⌜arg5.view.read (Elt F) f = odds x0 x1 x2 x3 k⌝))) $$ [H0 H1 H2 H3 H4 HS0]
  · intro k acc
    iintro ⟨H0, H1, H2, H3, ⟨%f, H4, %hf⟩, ⟨%g, HS0, %hg⟩⟩
    have hk : k.val < 6340 := Nat.lt_of_lt_of_le k.isLt k0_t2_abs.2.1
    have a0 := readAt_entry (Val := Elt F) arg0.view (harg0.unread x0) (k0_off5_inb k) (k0_off5_eq k) (by omega) (Shape.Idx.first (numel1_S1.symm ▸ Nat.one_pos))
    rw [hx0] at a0
    have a1 := readAt_entry (Val := Elt F) arg1.view (harg1.unread x1) (k0_off5_inb k) (k0_off5_eq k) (by omega) (Shape.Idx.first (numel1_S1.symm ▸ Nat.one_pos))
    rw [hx1] at a1
    have a2 := readAt_entry (Val := Elt F) arg2.view (harg2.unread x2) (k0_off5_inb k) (k0_off5_eq k) (by omega) (Shape.Idx.first (numel1_S1.symm ▸ Nat.one_pos))
    rw [hx2] at a2
    have b0 := readAt_entry (Val := Elt F) arg0.view (harg0.unread x0) (k0_off9_inb k) (k0_off9_eq k) (by omega) (Shape.Idx.first (numel1_S1.symm ▸ Nat.one_pos))
    rw [hx0] at b0
    have b1 := readAt_entry (Val := Elt F) arg1.view (harg1.unread x1) (k0_off9_inb k) (k0_off9_eq k) (by omega) (Shape.Idx.first (numel1_S1.symm ▸ Nat.one_pos))
    rw [hx1] at b1
    have b2 := readAt_entry (Val := Elt F) arg2.view (harg2.unread x2) (k0_off9_inb k) (k0_off9_eq k) (by omega) (Shape.Idx.first (numel1_S1.symm ▸ Nat.one_pos))
    rw [hx2] at b2
    have w3 : k0_chk3 (arg0.view.readAt (Elt F) (Rect.unit (s := S16777) (k0_off5 k) S1.size (k0_off5_inb k)).toLoadRect (harg0.unread x0) (Shape.Idx.first (numel1_S1.symm ▸ Nat.one_pos))) :=
      row_inb (off7_eq _) (by rw [a0]; exact hr _)
    have w2 : k0_chk2 (arg1.view.readAt (Elt F) (Rect.unit (s := S16777) (k0_off5 k) S1.size (k0_off5_inb k)).toLoadRect (harg1.unread x1) (Shape.Idx.first (numel1_S1.symm ▸ Nat.one_pos))) :=
      ⟨row_inb (off6_eq _) (by rw [a1]; exact hc _), row_inb (off8_eq _) (by rw [a1]; exact hc _)⟩
    have w5 : k0_chk5 (arg0.view.readAt (Elt F) (Rect.unit (s := S16777) (k0_off9 k) S1.size (k0_off9_inb k)).toLoadRect (harg0.unread x0) (Shape.Idx.first (numel1_S1.symm ▸ Nat.one_pos))) :=
      row_inb (off11_eq _) (by rw [b0]; exact hr _)
    have w4 : k0_chk4 (arg1.view.readAt (Elt F) (Rect.unit (s := S16777) (k0_off9 k) S1.size (k0_off9_inb k)).toLoadRect (harg1.unread x1) (Shape.Idx.first (numel1_S1.symm ▸ Nat.one_pos))) :=
      ⟨row_inb (off10_eq _) (by rw [b1]; exact hc _), row_inb (off12_eq _) (by rw [b1]; exact hc _)⟩
    sl_exec
    sl_step
    isplitl [H0]; · iexact H0
    isplitl [H1]; · iexact H1
    isplitl [H2]; · iexact H2
    isplitl [H3]; · iexact H3
    isplitl [H4]
    · iexists _; isplitl [H4]; · iexact H4
      ipureintro
      refine (store_add x0 x1 x2 x3 arg4.view f arg3.view _ _ _ _ (off8_eq _) (off6_eq _) (off7_eq _) (hr _) (hc _) a0 a1 a1 a2 hx3).trans ?_
      rw [hf]; rfl
    iexists _; isplitl [HS0]; · iexact HS0
    ipureintro
    refine (store_add x0 x1 x2 x3 arg5.view g arg3.view _ _ _ _ (off12_eq _) (off10_eq _) (off11_eq _) (hr _) (hc _) b0 b1 b1 b2 hx3).trans ?_
    rw [hg]; rfl
  · isplitl [H0]; · iexact H0
    isplitl [H1]; · iexact H1
    isplitl [H2]; · iexact H2
    isplitl [H3]; · iexact H3
    isplitl [H4]
    · iexists _; isplitl [H4]; · iexact H4
      ipureintro; exact hfill
    iexists _; isplitl [HS0]; · iexact HS0
    ipureintro
    exact View.read_writes_full arg5.view _ _ _ _
  iintro %acc ⟨H0, H1, H2, H3, ⟨%f', H4, %hf'⟩, ⟨%g, HS0, %hg⟩⟩
  rw [show Scf.trips k0_t2_loop.lb k0_t2_loop.ub k0_t2_loop.st = 6340 from trips2] at hf' hg
  have t0 := readAt_entry (Val := Elt F) arg0.view (harg0.unread x0) inb_S16777_S1_16776 rfl (by omega) (Shape.Idx.first (numel1_S1.symm ▸ Nat.one_pos))
  rw [hx0] at t0
  have t1 := readAt_entry (Val := Elt F) arg1.view (harg1.unread x1) inb_S16777_S1_16776 rfl (by omega) (Shape.Idx.first (numel1_S1.symm ▸ Nat.one_pos))
  rw [hx1] at t1
  have t2 := readAt_entry (Val := Elt F) arg2.view (harg2.unread x2) inb_S16777_S1_16776 rfl (by omega) (Shape.Idx.first (numel1_S1.symm ▸ Nat.one_pos))
  rw [hx2] at t2
  have w6 : k0_chk6 (arg1.view.readAt (Elt F) (Rect.unit (s := S16777) ![16776] S1.size inb_S16777_S1_16776).toLoadRect (harg1.unread x1) (Shape.Idx.first (numel1_S1.symm ▸ Nat.one_pos))) :=
    row_inb (off13_eq _) (by rw [t1]; exact hc _)
  have w7 : k0_chk7 (arg0.view.readAt (Elt F) (Rect.unit (s := S16777) ![16776] S1.size inb_S16777_S1_16776).toLoadRect (harg0.unread x0) (Shape.Idx.first (numel1_S1.symm ▸ Nat.one_pos))) :=
    row_inb (off14_eq _) (by rw [t0]; exact hr _)
  have w8 : k0_chk8 (arg1.view.readAt (Elt F) (Rect.unit (s := S16777) ![16776] S1.size inb_S16777_S1_16776).toLoadRect (harg1.unread x1) (Shape.Idx.first (numel1_S1.symm ▸ Nat.one_pos))) :=
    row_inb (off15_eq _) (by rw [t1]; exact hc _)
  sl_exec
  sl_step
  iapply Hk
  isplitl [H0]
  · iexists _; isplitr; · ipureintro; exact hx0
    iexact H0
  isplitl [H1]
  · iexists _; isplitr; · ipureintro; exact hx1
    iexact H1
  isplitl [H2]
  · iexists _; isplitr; · ipureintro; exact hx2
    iexact H2
  isplitl [H3]
  · iexists _; isplitr; · ipureintro; exact hx3
    iexact H3
  isplitl [H4]
  · iexists _; isplitr; swap; · iexact H4
    ipureintro
    refine (View.read_writes_full arg4.view _ _ _ _).trans ?_
    rw [result]
    refine congr (congrArg k0_pay1 (congrArg k0_pay9 ?_)) ((View.readAt_full arg5.view _ _).trans hg)
    refine (View.readAt_full arg4.view _ _).trans ?_
    refine (store_add x0 x1 x2 x3 arg4.view f' arg3.view _ _ _ _ (off15_eq _) (off13_eq _) (off14_eq _) (hr _) (hc _) t0 t1 t1 t2 hx3).trans ?_
    rw [hf']
  iexists _, _; isplitr; swap; · iexact HS0
  ipureintro; rfl

end Cert.KernelIdeal.Seg

end
-- ==== Proof.Run.lean ====
/-
  THE IDEALIZED KERNEL'S RUN: from any memory whose index words are in range, it ends with every semaphore counter at
  zero, its arguments unchanged, and its result array the body's `result` of what the host operations hand it.
-/
module

public import proofs.«01_k».proof.Proof.Body
public import Idealize.ShloMosaic.Lib.Claim
public import Idealize.ShloMosaic.Lib.Pipeline.Value
public import Idealize.ShloMosaic.Lib.Pipeline.ValueKit

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four inputs' blocks, each at its vector type. -/
abbrev in0 (c : Dev nD) (t : Fin cfg0.N) : Vec F S16777 .i32 := iblk m c 0 t
abbrev in1 (c : Dev nD) (t : Fin cfg0.N) : Vec F S16777 .i32 := iblk m c 1 t
abbrev in2 (c : Dev nD) (t : Fin cfg0.N) : Vec F S16777 .f32 := iblk m c 2 t
abbrev in3 (c : Dev nD) (t : Fin cfg0.N) : Vec F S4096x8x128 .f32 := iblk m c 3 t

/-- The index words that the body reads are in range. -/
def InRange : Prop :=
  ∀ (c : Dev nD) (t : Fin cfg0.N) (k : ℕ), (at1 (in0 m c t) k).toNat < 4096 ∧ (at1 (in1 m c t) k).toNat < 4096

/-- The pipeline's proof data: the inputs' buffers keep their blocks, the result's is left at `result`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result (in0 m c t) (in1 m c t) (in2 m c t) (in3 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = result (in0 m c t) (in1 m c t) (in2 m c t) (in3 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The windows' staging memrefs at a point, each at its vector type, and the scratch operand's. -/
abbrev ms0_0 (t : Fin cfg0.N) : Memref sig .tc .smem S16777 .i32 := win0_0.stage (cfg0.slots t 0)
abbrev ms0_1 (t : Fin cfg0.N) : Memref sig .tc .smem S16777 .i32 := win0_1.stage (cfg0.slots t 1)
abbrev ms0_2 (t : Fin cfg0.N) : Memref sig .tc .smem S16777 .f32 := win0_2.stage (cfg0.slots t 2)
abbrev ms0_3 (t : Fin cfg0.N) : Memref sig .tc .vmem S4096x8x128 .f32 := win0_3.stage (cfg0.slots t 3)
abbrev ms0_4 (t : Fin cfg0.N) : Memref sig .tc .vmem S4096x8x128 .f32 := win0_4.stage (cfg0.slots t 4)
abbrev scM0_0 : Memref sig .tc .vmem S4096x8x128 .f32 := Memref.whole cc0_scratch0

/-- The invariant: the scratch operand owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem sound_body (hR : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩⟩
  iapply (body_run c _ _ _ _ _ _ _ _ _ _ _ _ (in0 m c t) (in1 m c t) (in2 m c t) (in3 m c t)
    (fun k => (hR c t k).1) (fun k => (hR c t k).2) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (hR : InRange m) (c : Dev nD) :
    BodyObligation (dats (F := F) m 0 c) (defs₀ (F := F)) Variants.none () Set.univ := fun t => by
  rw [bigSep_W0, bigSep_W0, defs₀_row]
  exact triple_restated (sound_body m hR c t) rfl .rfl fun _ => .rfl

set_option backward.isDefEq.respectTransparency.types false in
set_option maxHeartbeats 800000 in
/-- The launch: the arrays after the region as the proof data says, the host operations after it done, the counters zero. -/
theorem run_main (hR : InRange m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m hR c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Seg

end
-- ==== Proof.Reads.lean ====
/-
  WHAT THE HOST OPERATIONS HAND THE BODY, at an index, in terms of the arguments; and the result array of the program
  at an index, in terms of what the body leaves.
-/
module

public import proofs.«01_k».proof.Proof.Run
public import Idealize.ShloMosaic.Lib.StableHlo.ReadAt

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- At the one point every window's block is the whole array. -/
theorem index_zero : win0_0.index t0_0 0 = 0 ∧ win0_1.index t0_0 0 = 0 ∧ win0_2.index t0_0 0 = 0
    ∧ win0_3.index t0_0 0 = 0 ∧ win0_3.index t0_0 1 = 0 ∧ win0_3.index t0_0 2 = 0 := by decide

theorem V_main_v1 (c : Dev nD) (k : Fin 16777) :
    (V m c main_v1 : Vec F S16777 .i32) (ix1 k) = (m (c.tc.loc main_arg2) : Vec F S2x16777 .i32) (ix2 0 k) := by
  unfold V V0
  after_reads_at

theorem V_main_v3 (c : Dev nD) (k : Fin 16777) :
    (V m c main_v3 : Vec F S16777 .i32) (ix1 k) = (m (c.tc.loc main_arg2) : Vec F S2x16777 .i32) (ix2 1 k) := by
  unfold V V0
  after_reads_at

theorem V_main_v5 (c : Dev nD) (d : Fin 4096) (a : Fin 8) (b : Fin 128) :
    (V m c main_v5 : Vec F S4096x8x128 .f32) (ix3 d a b)
      = (m (c.tc.loc main_arg0) : Vec F S1024x4096 .f32) (ix2 ⟨a.val * 128 + b.val, by omega⟩ d) := by
  unfold V V0
  after_reads_at

theorem in0_apply (c : Dev nD) (t : Fin cfg0.N) (k : Fin 16777) :
    in0 m c t (ix1 k) = (m (c.tc.loc main_arg2) : Vec F S2x16777 .i32) (ix2 0 k) := by
  obtain rfl := fin_N0 t
  refine Eq.trans ?_ (V_main_v1 m c k)
  blk_ext [iblk, index_zero]

theorem in1_apply (c : Dev nD) (t : Fin cfg0.N) (k : Fin 16777) :
    in1 m c t (ix1 k) = (m (c.tc.loc main_arg2) : Vec F S2x16777 .i32) (ix2 1 k) := by
  obtain rfl := fin_N0 t
  refine Eq.trans ?_ (V_main_v3 m c k)
  blk_ext [iblk, index_zero]

theorem in2_apply (c : Dev nD) (t : Fin cfg0.N) (k : Fin 16777) :
    in2 m c t (ix1 k) = (m (c.tc.loc main_arg1) : Vec F S16777 .f32) (ix1 k) := by
  obtain rfl := fin_N0 t
  blk_point [iblk, V, index_zero]

theorem in3_apply (c : Dev nD) (t : Fin cfg0.N) (d : Fin 4096) (a : Fin 8) (b : Fin 128) :
    in3 m c t (ix3 d a b) = (m (c.tc.loc main_arg0) : Vec F S1024x4096 .f32) (ix2 ⟨a.val * 128 + b.val, by omega⟩ d) := by
  obtain rfl := fin_N0 t
  refine Eq.trans ?_ (V_main_v5 m c d a b)
  blk_ext [iblk, index_zero]

/-- The result array of the region ends as the body leaves it. -/
theorem final_o (c : Dev nD) : (dats m 0 c).arrAt 4 cfg0.N = result (in0 m c t0_0) (in1 m c t0_0) (in2 m c t0_0) (in3 m c t0_0) := by
  refine (dats m 0 c).arrAt_eq_of_after_last 4 t0_0 (by decide +kernel) _ fun j => ?_
  blk_simp
  rw [after0_4]

/-- What the program's result array ends holding. -/
def out (c : Dev nD) : Buf (Elt F) ((c.tc : Thread nD τ).loc main_v8) :=
  transpose S1024x4096 [1, 0] (shapeCast S4096x1024 (result (in0 m c t0_0) (in1 m c t0_0) (in2 m c t0_0) (in3 m c t0_0))
    shapeCasts_S4096x8x128_S4096x1024) transposes_S4096x1024_S1024x4096_1_0

/-- The run, read: the result, the arguments unchanged, the counters zero. -/
theorem run (hR : InRange m) : θ_run defs (onTc (τ := τ) (main (F := F))) ⟨m, fun _ => 0, ρ⟩ (fun r => (∀ c : Dev nD,
      r.2.mem ((c.tc : Thread nD τ).loc main_v8) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine θ_run_and ?_ ((θ_run defs _ _).mono (fun _ h => h.2) (run_main m ρ hR))
  have h := (θ_run defs _ _).mono (fun _ h => h.1) (run_main m ρ hR)
  refine (θ_run defs _ _).mono (fun _ h c => ⟨?_, h.2 c⟩) (θ_run_and h (frame_of m ρ (dats m) (A_eq m) h))
  refine ((h.1 c).2 main_v8 (Pipeline.mem_restRefs_of main_v8 (by decide) (by decide))).trans ?_
  unfold Pipeline.afterTail₀ out
  have e := (Pipeline.withArrays_arr spec0 winFacts0.arr_inj c (V0 m c) (fun w => (dats m 0 c).arrAt w (cfgs 0).N) 4).trans (final_o m c)
  revert e
  generalize Pipeline.withArrays spec0 c (V0 m c) (fun w => (dats m 0 c).arrAt w (cfgs 0).N) = W
  intro e
  show StableHlo.after [hostOps1].flatten W (Proc.tc.devRef main_v8) = _
  unfold_abbrev_sides
  after_results
  rw [← e]
  rfl

end Cert.KernelIdeal.Seg

end
-- ==== Proof.Draw.lean ====
/-
  THE PRECONDITION READ: where it holds, every index word is below 4096 and the first 4096 column words count up from
  zero. From it, the side conditions that the kernel assumes of the index words it reads.
-/
module

public import proofs.«01_k».proof.Defs
public import proofs.«01_k».proof.Proof.Reads
public import proofs.«01_k».proof.Proof.Gen.Kernel
public import proofs.«01_k».proof.Proof.Gen.Pre_drawn

@[expose] public section

set_option maxRecDepth 16384

noncomputable section

namespace Cert.Draw

open Idealize.ShloMosaic Idealize.ShloMosaic.TcCoe

/-- The printed predicate at one entry: the word is in range, and a column word of the first 4096 is its own position. -/
theorem entry {F : FTy → Type} [FloatOps F] (x0 : FVec F Pre_drawn.S1024x4096 .f32) (x1 : FVec F Pre_drawn.S16777 .f32)
    (x2 : IVec Pre_drawn.S2x16777 32) (h : Pre_drawn.fn x0 x1 x2 = fun _ => 1#1) (r : Fin 2) (k : Fin 16777) :
    (x2 (ix2 r k)).toNat < 4096 ∧ (r = 1 → k.val < 4096 → (x2 (ix2 r k)).toNat = k.val) := by
  have e := congrFun h (ix2 r k)
  have hk := k.isLt
  unfold Pre_drawn.fn at e
  pointwise at e
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  have ofBool_eq_one (p : Bool) : (BitVec.ofBool p = 1#1) ↔ p = true := by cases p <;> decide
  simp only [IntOp.cmpi, andi_ofBool, ori_ofBool, ofBool_eq_one, Bool.and_eq_true, Bool.or_eq_true, beq_iff_eq] at e
  obtain ⟨⟨hge, hlt⟩, hc⟩ := e
  simp only [BitVec.sle, BitVec.slt, decide_eq_true_eq, BitVec.toInt, BitVec.toNat_ofNat] at hge hlt hc
  refine ⟨by omega, fun hr hk' => ?_⟩
  subst hr
  rcases hc with (hc | hc) | hc
  · exact absurd hc (by decide)
  · exfalso; rw [Nat.mod_eq_of_lt (by omega)] at hc; omega
  · rw [hc, BitVec.toNat_ofNat, Nat.mod_eq_of_lt (by omega)]

end Cert.Draw

namespace Cert.KernelIdeal.Seg

open Cert.KernelIdeal Cert.KernelIdeal.Gen
open Idealize.ShloMosaic Idealize.ShloMosaic.TcCoe

variable {F : FTy → Type} [FloatOps F]

/-- The precondition puts every index word that the kernel's body reads in range. -/
theorem inRange_of_drawn (m : (ℓ : Loc nD τ sig) → Buf (Elt F) ℓ)
    (h : ∀ c : Dev nD, Cert.Pre_drawn.fn (F := F) (m (c.tc.loc main_arg0)) (m (c.tc.loc main_arg1)) (m (c.tc.loc main_arg2)) = fun _ => 1#1) :
    InRange m := by
  intro c t k
  unfold at1
  rw [in0_apply, in1_apply]
  exact ⟨(Cert.Draw.entry _ _ _ (h c) _ _).1, (Cert.Draw.entry _ _ _ (h c) _ _).1⟩

/-- The same of the claims' precondition. -/
theorem inRange_of_pre (m : (ℓ : Loc nD τ sig) → Buf (Elt Ideal) ℓ) (h : Cert.Pre_KernelIdeal m) : InRange m :=
  inRange_of_drawn m h

end Cert.KernelIdeal.Seg

end
-- ==== Proof.Same.lean ====
/-
  THE KERNEL AT THE MACHINE'S WORDS: the idealized program is the kernel's own text, so a run of the one, which is
  proved for every reading of the floats, is a run of the other.
-/
module

public import proofs.«01_k».proof.Proof.Draw

@[expose] public section

set_option maxRecDepth 16384

noncomputable section

namespace Cert.Kernel.Same

open Idealize.ShloMosaic Idealize.ShloMosaic.TcCoe
open Idealize.SL.Sem

variable {F : FTy → Type} [FloatOps F]

/-- The two programs declare the same buffers. -/
theorem sig_eq : Cert.Kernel.sig = Cert.KernelIdeal.sig := rfl

/-- The two programs have the same kernel body. -/
theorem body_eq : @Cert.Kernel.cc0__seg_logsumexp_kernel F _ _ = @Cert.KernelIdeal.cc0__seg_logsumexp_kernel F _ _ := rfl

/-- So the body tables agree, label by label. -/
theorem table_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- And the tables with the region's own labels. -/
theorem defs_eq : Cert.Kernel.defs (F := F) = Cert.KernelIdeal.defs (F := F) :=
  congrArg (Pipeline.defs (Cert.KernelIdeal.pcfgs (F := F))) table_eq

/-- The two programs have the same main function. -/
theorem main_eq : Cert.Kernel.main (F := F) = Cert.KernelIdeal.main (F := F) := rfl

/-- A run of the idealized program's text is a run of the kernel's. -/
theorem run_iff (m : (ℓ : Loc Cert.Kernel.nD Cert.Kernel.τ Cert.Kernel.sig) → Buf (Elt F) ℓ) (g : Dev Cert.Kernel.nD → PrngReg) (post) :
    θ_run (Cert.Kernel.defs (F := F)) (onTc (τ := Cert.Kernel.τ) (Cert.Kernel.main (F := F))) ⟨m, fun _ => 0, g⟩ post
      ↔ θ_run (Cert.KernelIdeal.defs (F := F)) (onTc (τ := Cert.KernelIdeal.τ) (Cert.KernelIdeal.main (F := F))) ⟨m, fun _ => 0, g⟩ post := by
  rw [defs_eq, main_eq]
  exact Iff.rfl

/-- The kernel at the machine's words ends with its arguments unchanged and every semaphore counter at zero. -/
theorem frame (m : (ℓ : Loc Cert.Kernel.nD Cert.Kernel.τ Cert.Kernel.sig) → Buf (Elt Bits) ℓ) (g : Dev Cert.Kernel.nD → PrngReg) (h : Cert.Pre_Kernel m) :
    θ_run (Cert.Kernel.defs (F := Bits)) (onTc (τ := Cert.Kernel.τ) (Cert.Kernel.main (F := Bits))) ⟨m, fun _ => 0, g⟩ (fun r => (∀ c : Dev Cert.Kernel.nD,
      r.2.mem (c.tc.loc Cert.Kernel.main_arg0) = m (c.tc.loc Cert.Kernel.main_arg0)
      ∧ r.2.mem (c.tc.loc Cert.Kernel.main_arg1) = m (c.tc.loc Cert.Kernel.main_arg1)
      ∧ r.2.mem (c.tc.loc Cert.Kernel.main_arg2) = m (c.tc.loc Cert.Kernel.main_arg2))
      ∧ r.2.sem = fun _ => 0) :=
  (run_iff m g _).2 ((θ_run _ _ _).mono (fun _ k => ⟨fun c => (k.1 c).2, k.2⟩)
    (Cert.KernelIdeal.Seg.run (F := Bits) m g (Cert.KernelIdeal.Seg.inRange_of_drawn m h)))

end Cert.Kernel.Same

end
-- ==== Proof.SegSum.lean ====
/-
  THE IDENTITY between a stabilised segment log-sum-exp and the plain one, over the extended reals.
-/
module

public import Idealize.ShloMosaic.Lib.IdealHost

@[expose] public section

noncomputable section

namespace Cert.SegSum

open Idealize.ShloMosaic

variable {ι : Type}

theorem exp_nonneg (x : EReal) : 0 ≤ Ideal.exp x := by
  induction x with
  | bot => exact le_of_eq Ideal.exp_bot.symm
  | top => rw [Ideal.exp_top]; exact le_top
  | coe r => rw [Ideal.exp_coe]; exact_mod_cast (Real.exp_pos r).le

theorem coe_sum (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- The stabiliser: the maximum where it is finite, zero elsewhere. -/
def safe (M : EReal) : EReal := if ⊥ < M ∧ M < ⊤ then M else 0

/-- Of terms with a finite maximum, exponentials shifted by it are the exponentials scaled. -/
theorem exp_shift (x : EReal) (r : ℝ) (h : x ≤ r) :
    ∃ e : ℝ, Ideal.exp x = e ∧ Ideal.exp (x - r) = ((e * Real.exp (-r) : ℝ) : EReal) := by
  induction x with
  | bot => exact ⟨0, by rw [Ideal.exp_bot]; rfl, by rw [EReal.bot_sub, Ideal.exp_bot, zero_mul]; rfl⟩
  | top => exact absurd h (not_le.2 (EReal.coe_lt_top r))
  | coe y => exact ⟨Real.exp y, Ideal.exp_coe y, by rw [← EReal.coe_sub, Ideal.exp_coe, ← Real.exp_add, sub_eq_add_neg]⟩

/-- The stabilised logarithm of a sum of exponentials is the plain one. -/
theorem log_sum (s : Finset ι) (c : ι → EReal) (ε : EReal) (hε : ε ≤ 1) :
    (if 0 < ∑ k ∈ s, Ideal.exp (c k - safe (s.sup c))
      then safe (s.sup c) + Ideal.log (max (∑ k ∈ s, Ideal.exp (c k - safe (s.sup c))) ε) else ⊥)
      = Ideal.log (∑ k ∈ s, Ideal.exp (c k)) := by
  have hle : ∀ k ∈ s, c k ≤ s.sup c := fun k hk => Finset.le_sup hk
  rcases s.eq_empty_or_nonempty with rfl | hs
  · rw [Finset.sum_empty, Finset.sum_empty, if_neg (lt_irrefl _), ← EReal.coe_zero, Ideal.log_coe, if_pos le_rfl]
  obtain ⟨j, hj, hjM⟩ := Finset.exists_mem_eq_sup s hs c
  generalize s.sup c = M at hle hjM ⊢
  induction M with
  | bot =>
    have h0 : safe ⊥ = 0 := if_neg (fun h => lt_irrefl _ h.1)
    have hz : ∑ k ∈ s, Ideal.exp (c k) = 0 :=
      Finset.sum_eq_zero fun k hk => by rw [le_bot_iff.1 (hle k hk), Ideal.exp_bot]
    rw [h0]
    simp only [sub_zero]
    rw [hz, if_neg (lt_irrefl _), ← EReal.coe_zero, Ideal.log_coe, if_pos le_rfl]
  | top =>
    have h0 : safe ⊤ = 0 := if_neg (fun h => lt_irrefl _ h.2)
    have hz : ∑ k ∈ s, Ideal.exp (c k) = ⊤ := by
      refine top_le_iff.1 ?_
      have := Finset.single_le_sum (f := fun k => Ideal.exp (c k)) (fun k _ => exp_nonneg (c k)) hj
      rwa [← hjM, Ideal.exp_top] at this
    rw [h0]
    simp only [sub_zero]
    rw [hz, if_pos EReal.zero_lt_top, zero_add, max_eq_left le_top]
  | coe r =>
    have h0 : safe (r : EReal) = r := if_pos ⟨EReal.bot_lt_coe r, EReal.coe_lt_top r⟩
    rw [h0]
    choose! e he he' using fun k hk => exp_shift (c k) r (hle k hk)
    have hnn : ∀ k ∈ s, 0 ≤ e k := fun k hk => by
      have := exp_nonneg (c k)
      rw [he k hk] at this
      exact_mod_cast this
    have hej : e j = Real.exp r := by
      have := he j hj
      rw [← hjM, Ideal.exp_coe] at this
      exact_mod_cast this.symm
    have hS : Real.exp r ≤ ∑ k ∈ s, e k := hej ▸ Finset.single_le_sum hnn hj
    have hpos : 0 < ∑ k ∈ s, e k := (Real.exp_pos r).trans_le hS
    have s1 : ∑ k ∈ s, Ideal.exp (c k) = ((∑ k ∈ s, e k : ℝ) : EReal) := by
      rw [Finset.sum_congr rfl he]; exact (coe_sum s e).symm
    have s2 : ∑ k ∈ s, Ideal.exp (c k - r) = (((∑ k ∈ s, e k) * Real.exp (-r) : ℝ) : EReal) := by
      rw [Finset.sum_congr rfl he', Finset.sum_mul]
      exact (coe_sum s fun k => e k * Real.exp (-r)).symm
    have h1 : 1 ≤ (∑ k ∈ s, e k) * Real.exp (-r) := by
      have := mul_le_mul_of_nonneg_right hS (Real.exp_pos (-r)).le
      rwa [← Real.exp_add, add_neg_cancel, Real.exp_zero] at this
    have hp : 0 < (∑ k ∈ s, e k) * Real.exp (-r) := one_pos.trans_le h1
    rw [s1, s2, if_pos (by exact_mod_cast hp), max_eq_left (hε.trans (by exact_mod_cast h1)), Ideal.log_coe, Ideal.log_coe,
      if_neg (not_le.2 hp), if_neg (not_le.2 hpos), Real.log_mul hpos.ne' (Real.exp_pos _).ne', Real.log_exp, ← EReal.coe_add]
    congr 1
    ring

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem ofBits_tiny : Ideal.ofBits .f32 0x006CE3EE#32 ≤ 1 := by
  rw [show (1 : EReal) = ((1 : ℝ) : EReal) by norm_cast]
  simp only [Ideal.ofBits, Ideal.ieee]
  simp [-EReal.coe_mul, -EReal.coe_one]
  norm_num

end Cert.SegSum
-- ==== Proof.Spec.lean ====
/-
  THE MATHEMATICS both programs compute: for row `n` of the dense matrix and column `e` of the sparse one, the logarithm
  of the sum, over the nonzeros of that column, of the exponentials of their contributions.
-/
module

public import proofs.«01_k».proof.Proof.SegSum
public import Idealize.ShloMosaic.Lib.Pointwise

@[expose] public section

noncomputable section

namespace Cert.Spec

open Idealize.ShloMosaic

variable (X : (⟨2, ![1024, 4096]⟩ : Shape).Idx → EReal) (V : (⟨1, ![16777]⟩ : Shape).Idx → EReal)
  (J : (⟨2, ![2, 16777]⟩ : Shape).Idx → BitVec 32)

/-- What nonzero `k` contributes to row `n`: the dense entry in the nonzero's row, plus the nonzero's value. -/
def contrib (n : Fin 1024) (k : Fin 16777) : EReal :=
  X (ix2 n ⟨(J (ix2 0 k)).toNat % 4096, Nat.mod_lt _ (by decide)⟩) + V (ix1 k)

/-- The result at `(n, e)`. -/
def logSum (n : Fin 1024) (e : Fin 4096) : EReal :=
  Ideal.log (∑ k ∈ Finset.univ.filter (fun k : Fin 16777 => (J (ix2 1 k)).toNat = e.val), Ideal.exp (contrib X V J n k))

end Cert.Spec

end
-- ==== Proof.KernelSum.lean ====
/-
  THE KERNEL'S RESULT at an index, over the extended reals: the logarithm of the sum, over the nonzeros of a column, of
  the exponentials of their contributions.
-/
module

public import proofs.«01_k».proof.Proof.Draw
public import proofs.«01_k».proof.Proof.Spec

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL.Sem

section Pure
variable (x0 x1 : Vec Ideal S16777 .i32) (x2 : Vec Ideal S16777 .f32) (x3 : Vec Ideal S4096x8x128 .f32)

/-- The exponential nonzero `k` contributes at lane `(a, b)`. -/
def term (a : Fin 8) (b : Fin 128) (k : ℕ) : EReal :=
  Ideal.exp (x3 (ix3 ⟨(at1 x0 k).toNat % 4096, Nat.mod_lt _ (by decide)⟩ a b) + at1 x2 k)

/-- The same, kept only where `k` lies in column `e`. -/
def part (e : Fin 4096) (a : Fin 8) (b : Fin 128) (k : ℕ) : EReal :=
  if (at1 x1 k).toNat = e.val then term x0 x2 x3 a b k else 0

theorem expRow_apply (k : ℕ) (a : Fin 8) (b : Fin 128) : expRow x0 x2 x3 k (ix3 0 a b) = term x0 x2 x3 a b k := by
  unfold expRow term k0_pay5
  generalize at1 x2 k = v
  pointwise [row]

theorem filled_apply (e : Fin 4096) (a : Fin 8) (b : Fin 128) : filled x0 x2 x3 (ix3 e a b) = term x0 x2 x3 a b e.val :=
  expRow_apply x0 x2 x3 e.val a b

theorem pay2_apply (v : EReal) (A R : Vec Ideal S1x8x128 .f32) (a : Fin 8) (b : Fin 128) :
    k0_pay2 (F := Ideal) v A R (ix3 0 a b) = A (ix3 0 a b) + Ideal.exp (R (ix3 0 a b) + v) := by
  unfold k0_pay2
  pointwise

theorem addRow_apply (A : Vec Ideal S4096x8x128 .f32) (k : ℕ) (e : Fin 4096) (a : Fin 8) (b : Fin 128) :
    addRow x0 x1 x2 x3 A k (ix3 e a b) = A (ix3 e a b) + part x0 x1 x2 x3 e a b k := by
  unfold addRow setRow part
  have he : ((ix3 e a b : S4096x8x128.Idx) 0).val = e.val := rfl
  rw [he]
  by_cases h : e.val = (at1 x1 k).toNat
  · rw [if_pos h, if_pos h.symm]
    refine (pay2_apply _ _ _ a b).trans ?_
    have : row A (at1 x1 k).toNat (ix3 0 a b) = A (ix3 e a b) := by
      rw [← h]
      refine congrArg A (congrArg (fun z => ix3 z a b) (Fin.ext ?_))
      exact Nat.mod_eq_of_lt e.isLt
    rw [this]
    rfl
  · rw [if_neg h, if_neg (Ne.symm h), add_zero]

theorem evens_apply (e : Fin 4096) (a : Fin 8) (b : Fin 128) (i : ℕ) : evens x0 x1 x2 x3 i (ix3 e a b)
    = term x0 x2 x3 a b e.val + ∑ j ∈ Finset.range i, part x0 x1 x2 x3 e a b (4096 + 2 * j) := by
  induction i with
  | zero => rw [Finset.sum_range_zero, add_zero]; exact filled_apply x0 x2 x3 e a b
  | succ i ih =>
    rw [Finset.sum_range_succ, ← add_assoc, ← ih, Nat.add_comm 4096]
    exact addRow_apply x0 x1 x2 x3 _ _ e a b

theorem odds_apply (e : Fin 4096) (a : Fin 8) (b : Fin 128) (i : ℕ) : odds x0 x1 x2 x3 i (ix3 e a b)
    = ∑ j ∈ Finset.range i, part x0 x1 x2 x3 e a b (4096 + (2 * j + 1)) := by
  induction i with
  | zero =>
    rw [Finset.sum_range_zero]
    refine Eq.trans ?_ Ideal.ofBits_zero_f32
    unfold odds k0_pay6
    pointwise
  | succ i ih =>
    rw [Finset.sum_range_succ, ← ih, show 4096 + (2 * i + 1) = 2 * i + 4097 by omega]
    exact addRow_apply x0 x1 x2 x3 _ _ e a b

/-- A sum over `2 n` positions is the sum over the even ones and that over the odd ones. -/
theorem sum_two (f : ℕ → EReal) (n : ℕ) : ∑ j ∈ Finset.range (2 * n), f j
    = ∑ j ∈ Finset.range n, f (2 * j) + ∑ j ∈ Finset.range n, f (2 * j + 1) := by
  induction n with
  | zero => simp
  | succ n ih =>
    rw [show 2 * (n + 1) = 2 * n + 1 + 1 by ring, Finset.sum_range_succ, Finset.sum_range_succ, Finset.sum_range_succ,
      Finset.sum_range_succ, ih]
    abel

/-- The result block, where the first 4096 nonzeros lie one in each column, in order. -/
theorem result_apply (hd : ∀ k < 4096, (at1 x1 k).toNat = k) (e : Fin 4096) (a : Fin 8) (b : Fin 128) :
    result x0 x1 x2 x3 (ix3 e a b) = Ideal.log (∑ k ∈ Finset.range 16777, part x0 x1 x2 x3 e a b k) := by
  have h0 : ∑ k ∈ Finset.range 4096, part x0 x1 x2 x3 e a b k = term x0 x2 x3 a b e.val := by
    rw [Finset.sum_eq_single e.val]
    · unfold part; rw [if_pos (hd _ e.isLt)]
    · intro k hk hne
      unfold part
      rw [if_neg]
      rw [hd k (Finset.mem_range.1 hk)]; exact hne
    · intro h; exact absurd (Finset.mem_range.2 e.isLt) h
  have h1 : ∑ k ∈ Finset.range 16777, part x0 x1 x2 x3 e a b k
      = addRow x0 x1 x2 x3 (evens x0 x1 x2 x3 6340) 16776 (ix3 e a b) + odds x0 x1 x2 x3 6340 (ix3 e a b) := by
    rw [addRow_apply, evens_apply, odds_apply, show 16777 = 4096 + (2 * 6340 + 1) by norm_num, Finset.sum_range_add, h0,
      Finset.sum_range_succ, sum_two]
    abel
  rw [h1]
  unfold result k0_pay1 k0_pay9
  pointwise

end Pure

open Cert.Spec

/-- The program's result at an index. -/
theorem out_apply (m : (ℓ : Loc nD τ sig) → Buf (Elt Ideal) ℓ) (h : Cert.Pre_KernelIdeal m) (c : Dev nD) (n : Fin 1024) (e : Fin 4096) :
    out m c (ix2 n e) = logSum (m (c.tc.loc main_arg0)) (m (c.tc.loc main_arg1)) (m (c.tc.loc main_arg2)) n e := by
  have hd : ∀ k < 4096, (at1 (in1 m c t0_0) k).toNat = k := by
    intro k hk
    unfold at1
    rw [in1_apply]
    have := (Cert.Draw.entry _ _ _ (h c) 1 ⟨k % 16777, Nat.mod_lt _ (by decide)⟩).2 rfl (by show k % 16777 < 4096; omega)
    exact this.trans (Nat.mod_eq_of_lt (by omega))
  have hn : n.val % 128 < 128 := Nat.mod_lt _ (by decide)
  have hr : out m c (ix2 n e) = result (in0 m c t0_0) (in1 m c t0_0) (in2 m c t0_0) (in3 m c t0_0)
      (ix3 e ⟨n.val / 128, by omega⟩ ⟨n.val % 128, hn⟩) := by
    unfold out
    generalize result (in0 m c t0_0) (in1 m c t0_0) (in2 m c t0_0) (in3 m c t0_0) = R
    pointwise
  rw [hr, result_apply _ _ _ _ hd, Finset.sum_range]
  unfold logSum
  rw [Finset.sum_filter]
  refine congrArg Ideal.log (Finset.sum_congr rfl fun k _ => ?_)
  have hk : (⟨k.val % 16777, Nat.mod_lt _ (by decide)⟩ : Fin 16777) = k := Fin.ext (Nat.mod_eq_of_lt k.isLt)
  have a0 : at1 (in0 m c t0_0) k.val = _ := (congrArg (fun z => in0 m c t0_0 (ix1 z)) hk).trans (in0_apply m c t0_0 k)
  have a1 : at1 (in1 m c t0_0) k.val = _ := (congrArg (fun z => in1 m c t0_0 (ix1 z)) hk).trans (in1_apply m c t0_0 k)
  have a2 : at1 (in2 m c t0_0) k.val = _ := (congrArg (fun z => in2 m c t0_0 (ix1 z)) hk).trans (in2_apply m c t0_0 k)
  have hx : (⟨n.val / 128 * 128 + n.val % 128, by omega⟩ : Fin 1024) = n := Fin.ext (by show n.val / 128 * 128 + n.val % 128 = n.val; omega)
  unfold part term contrib
  simp only [a0, a1, a2, in3_apply, hx]

end Cert.KernelIdeal.Seg

end
-- ==== Proof.RefOps.lean ====
/-
  GATHERS AND SCATTERS OF WHOLE ROWS AND COLUMNS, read at an index, at any extents.
-/
module

public import Idealize.ShloMosaic.Lib.Routing.OpsOne
public import Idealize.ShloMosaic.Lib.Pointwise

@[expose] public section

namespace Cert.RefOps

open Idealize.ShloMosaic Idealize.ShloMosaic.Routing

theorem zero_nin : (0 : Fin 2) ∉ [(1 : Fin 2)] := by decide
theorem one_nin : (1 : Fin 2) ∉ [(0 : Fin 2)] := by decide

/-- Columns taken from a table: entry `(n, k)` of the result is the table's entry `(n, b)`, `b` the index word of `k`. -/
theorem gather_col {α : Type} {A B N : ℕ} (d : GatherDims (shape2 A B) (shape2 N 1) (shape2 A N)) (hoff : d.offsetDims = [0])
    (hcoll : d.collapsedSliceDims = [1]) (hob : d.operandBatchingDims = []) (hsim : d.startIndexMap = [1]) (hivd : d.indexVectorDim = 1)
    (x : (shape2 A B).Idx → α) (idx : IVec (shape2 N 1) 32) (n : Fin A) (k : Fin N) (b : Fin B)
    (hb : (idx (ix2 k (0 : Fin 1))).toNat = b.val) (hB : B < 2 ^ 31) : Host.gather d x idx (ix2 n k) = x (ix2 n b) := by
  unfold Host.gather
  refine congrArg x (funext fun a => Fin.ext ?_)
  have hbN : ∀ a', a' ∉ d.operandBatchingDims := fun a' => by rw [hob]; exact List.not_mem_nil
  have hk0 : ∀ q ∈ d.batchDims, q = (1 : Fin 2) := fun q hq => by
    have hq' : q ∉ d.offsetDims := of_decide_eq_true (List.mem_filter.1 hq).2
    rw [hoff] at hq'
    have h1 : q.val ≠ 0 := fun e => hq' (List.mem_singleton.2 (Fin.ext e))
    have h2 : q.val < 2 := q.isLt
    exact Fin.ext (by show q.val = 1; omega)
  have hk1 : ∀ q ∈ d.offsetDims, q = (0 : Fin 2) := fun q hq => by rw [hoff] at hq; exact List.mem_singleton.1 hq
  have e0 : ∀ X : Fin 2, X = 0 → ((ix2 n k : (shape2 A N).Idx) X).val = n.val := fun X h => by subst h; rfl
  have e1 : ∀ X : Fin 2, X = 1 → ((ix2 n k : (shape2 A N).Idx) X).val = k.val := fun X h => by subst h; rfl
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 n k) idx 1 + d.batchCoord (ix2 n k) 1 + d.offCoord (ix2 n k) 1 = b.val
    rw [d.batchCoord_eq_zero _ _ (hbN 1), d.offCoord_eq_zero _ _ hk]
    simp only [Nat.add_zero]
    unfold GatherDims.start
    rw [dif_pos hm]
    have hsi : d.siIdx (ix2 n k) ⟨d.startIndexMap.idxOf 1, List.idxOf_lt_length_iff.2 hm⟩ = ix2 k (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk0 _ (List.getElem_mem _))
      | ⟨1, _⟩ =>
        unfold GatherDims.siIdx
        rw [dif_pos (by rw [hivd])]
        show List.idxOf (1 : Fin 2) d.startIndexMap = 0
        rw [hsim]; simp
    have hbl := b.isLt
    have hi : (idx (ix2 k (0 : Fin 1))).toInt = (b.val : Int) := by
      rw [BitVec.toInt_eq_toNat_of_lt (by omega), hb]
    rw [hsi, hi, hsl]
    show min ((b.val : Int)).toNat (B - 1) = b.val
    omega
  | ⟨0, _⟩ =>
    have hk : (0 : Fin 2) ∈ d.sKept := (d.mem_sKept 0).2 ⟨by rw [hcoll]; exact zero_nin, hbN 0⟩
    have hm : (0 : Fin 2) ∉ d.startIndexMap := by rw [hsim]; exact zero_nin
    show d.start (ix2 n k) idx 0 + d.batchCoord (ix2 n k) 0 + d.offCoord (ix2 n k) 0 = n.val
    rw [d.batchCoord_eq_zero _ _ (hbN 0), Nat.add_zero]
    unfold GatherDims.start GatherDims.offCoord
    rw [dif_neg hm, dif_pos hk, Nat.zero_add]
    exact e0 _ (hk1 _ (List.getElem_mem _))

/-- The one position a list with one entry has. -/
theorem getElem_one {α : Type} {l : List α} {a : α} (hl : l = [a]) (n : ℕ) (h : n < l.length) : l[n]'h = a := by
  subst hl
  exact List.mem_singleton.1 (List.getElem_mem h)

/-- Where a scatter of `N` rows, one index word each, lands entry `j` of its updates: the row its word names, its own lane. -/
theorem lands_rows {R C N w : ℕ} (d : ScatterDims (shape2 R C) (shape2 N 1) (shape2 N C)) (huw : d.updateWindowDims = [1])
    (hiw : d.insertedWindowDims = [0]) (hsd : d.scatterDimsToOperandDims = [0]) (hivd : d.indexVectorDim = 1) (idx : IVec (shape2 N 1) w)
    (k : Fin N) (y : Fin C) (e : Fin R) (n : Fin C) :
    d.resultIdx? (ix2 k y) idx = some (ix2 e n) ↔ (idx (ix2 k (0 : Fin 1))).toInt = e.val ∧ y = n := by
  have hk : d.sKept = [1] := by
    show (shape2 R C).kept d.insertedWindowDims = _
    rw [hiw]
    rfl
  have hu : d.uScatter = [0] := by
    show (shape2 N C).kept d.updateWindowDims = _
    rw [huw]
    rfl
  have hw0 : d.window (ix2 k y) 0 = 0 := by
    unfold ScatterDims.window
    rw [dif_neg (by rw [hk]; exact zero_nin)]
  have hw1 : d.window (ix2 k y) 1 = y.val := by
    unfold ScatterDims.window
    rw [dif_pos (by rw [hk]; exact List.mem_singleton.2 rfl)]
    exact congrArg (fun t => ((ix2 k y : (shape2 N C).Idx) t).val) (getElem_one huw _ _)
  have hm : (0 : Fin 2) ∈ d.scatterDimsToOperandDims := by rw [hsd]; exact List.mem_singleton.2 rfl
  have hsi : d.siIdx (ix2 k y) ⟨d.scatterDimsToOperandDims.idxOf 0, List.idxOf_lt_length_iff.2 hm⟩ = ix2 k (0 : Fin 1) := by
    funext b'
    apply Fin.ext
    match b' with
    | ⟨0, _⟩ =>
      unfold ScatterDims.siIdx
      rw [dif_neg (by rw [hivd]; exact Nat.zero_ne_one)]
      unfold ScatterDims.siCoord
      simp only [Fin.val_cast]
      exact congrArg (fun t => ((ix2 k y : (shape2 N C).Idx) t).val) (getElem_one hu _ _)
    | ⟨1, _⟩ =>
      unfold ScatterDims.siIdx
      rw [dif_pos (by rw [hivd])]
      show List.idxOf (0 : Fin 2) d.scatterDimsToOperandDims = 0
      rw [hsd]; rfl
  have hs0 : d.start (ix2 k y) idx 0 = (idx (ix2 k (0 : Fin 1))).toInt := by
    unfold ScatterDims.start
    rw [dif_pos hm, hsi]
  have hs1 : d.start (ix2 k y) idx 1 = 0 := by
    unfold ScatterDims.start
    rw [dif_neg (by rw [hsd]; exact one_nin)]
  rw [resultIdx?_eq_some]
  constructor
  · intro h
    have h0 := h 0
    have h1 := h 1
    rw [hs0, hw0] at h0
    rw [hs1, hw1] at h1
    change _ = ((e.val : ℕ) : Int) at h0
    change _ = ((n.val : ℕ) : Int) at h1
    exact ⟨by omega, Fin.ext (by omega)⟩
  · rintro ⟨h0, rfl⟩ a
    match a with
    | ⟨0, _⟩ => show d.start (ix2 k y) idx 0 + (d.window (ix2 k y) 0 : Int) = (e.val : Int); rw [hs0, hw0]; omega
    | ⟨1, _⟩ => show d.start (ix2 k y) idx 1 + (d.window (ix2 k y) 1 : Int) = (y.val : Int); rw [hs1, hw1]; omega

/-- Rows accumulated into a table of extended reals: entry `(e, n)` gains lane `n` of every row whose word is `e`. -/
theorem scatterAdd_rows {R C N w : ℕ} {φ : FTy} (d : ScatterDims (shape2 R C) (shape2 N 1) (shape2 N C)) (huw : d.updateWindowDims = [1])
    (hiw : d.insertedWindowDims = [0]) (hsd : d.scatterDimsToOperandDims = [0]) (hivd : d.indexVectorDim = 1)
    (x : FVec Ideal (shape2 R C) φ) (idx : IVec (shape2 N 1) w) (upd : FVec Ideal (shape2 N C) φ) (e : Fin R) (n : Fin C) :
    Host.scatterAdd d x idx upd (ix2 e n)
      = x (ix2 e n) + ∑ k ∈ Finset.univ.filter (fun k : Fin N => (idx (ix2 k (0 : Fin 1))).toInt = e.val), upd (ix2 k n) := by
  show Ideal.hostScatterAdd d x idx upd (ix2 e n) = _
  unfold Ideal.hostScatterAdd
  congr 1
  refine Finset.sum_bij' (fun j _ => (j 0 : Fin N)) (fun k _ => ix2 k n) ?_ ?_ ?_ ?_ ?_
  · intro j hj
    have := (Finset.mem_filter.1 hj).2
    rw [eq_ix2 j] at this
    exact Finset.mem_filter.2 ⟨Finset.mem_univ _, ((lands_rows d huw hiw hsd hivd idx _ _ e n).1 this).1⟩
  · intro k hk
    exact Finset.mem_filter.2 ⟨Finset.mem_univ _, (lands_rows d huw hiw hsd hivd idx _ _ e n).2 ⟨(Finset.mem_filter.1 hk).2, rfl⟩⟩
  · intro j hj
    have := (Finset.mem_filter.1 hj).2
    rw [eq_ix2 j] at this
    have h1 := ((lands_rows d huw hiw hsd hivd idx _ _ e n).1 this).2
    rw [← h1]; exact (eq_ix2 j).symm
  · intro k hk; rfl
  · intro j hj
    have := (Finset.mem_filter.1 hj).2
    rw [eq_ix2 j] at this
    have h1 := ((lands_rows d huw hiw hsd hivd idx _ _ e n).1 this).2
    rw [← h1]; exact congrArg upd (eq_ix2 j)

/-- One row set at one index word: entry `(e, n)` is the row's lane `n` where the word is `e`, else the operand's. -/
theorem scatter_row {α : Type} {R C w : ℕ} (d : ScatterDims (shape2 R C) (shape1 1) (shape1 C)) (huw : d.updateWindowDims = [0])
    (hiw : d.insertedWindowDims = [0]) (hsd : d.scatterDimsToOperandDims = [0]) (hivd : d.indexVectorDim = 0)
    (x : (shape2 R C).Idx → α) (idx : IVec (shape1 1) w) (upd : (shape1 C).Idx → α) (e : Fin R) (n : Fin C) :
    Host.scatter d (fun _ b => b) x idx upd (ix2 e n)
      = if (idx (ix1 (0 : Fin 1))).toInt = e.val then upd (ix1 n) else x (ix2 e n) := by
  have hk : d.sKept = [1] := by
    show (shape2 R C).kept d.insertedWindowDims = _
    rw [hiw]
    rfl
  have hw0 : ∀ y, d.window y 0 = 0 := fun y => by
    unfold ScatterDims.window
    rw [dif_neg (by rw [hk]; exact zero_nin)]
  have hw1 : ∀ y, d.window y 1 = (y 0).val := fun y => by
    unfold ScatterDims.window
    rw [dif_pos (by rw [hk]; exact List.mem_singleton.2 rfl)]
    exact congrArg (fun t => (y t).val) (getElem_one huw _ _)
  have hm : (0 : Fin 2) ∈ d.scatterDimsToOperandDims := by rw [hsd]; exact List.mem_singleton.2 rfl
  have hs0 : ∀ y, d.start y idx 0 = (idx (ix1 (0 : Fin 1))).toInt := fun y => by
    unfold ScatterDims.start
    rw [dif_pos hm]
    refine congrArg (fun t => (idx t).toInt) (funext fun a => Fin.ext ?_)
    match a with
    | ⟨0, _⟩ =>
      unfold ScatterDims.siIdx
      rw [dif_pos (by rw [hivd])]
      show List.idxOf (0 : Fin 2) d.scatterDimsToOperandDims = 0
      rw [hsd]; rfl
  have hs1 : ∀ y, d.start y idx 1 = 0 := fun y => by
    unfold ScatterDims.start
    rw [dif_neg (by rw [hsd]; exact one_nin)]
  have lands : ∀ y : (shape1 C).Idx, d.resultIdx? y idx = some (ix2 e n) ↔ (idx (ix1 (0 : Fin 1))).toInt = e.val ∧ y = ix1 n := by
    intro y
    rw [resultIdx?_eq_some]
    constructor
    · intro h
      have h0 := h 0
      have h1 := h 1
      rw [hs0, hw0] at h0
      rw [hs1, hw1] at h1
      change _ = ((e.val : ℕ) : Int) at h0
      change _ = ((n.val : ℕ) : Int) at h1
      refine ⟨by omega, funext fun a => ?_⟩
      obtain rfl : a = 0 := Subsingleton.elim (α := Fin 1) _ _
      exact Fin.ext (by show (y 0).val = n.val; omega)
    · rintro ⟨h0, rfl⟩ a
      match a with
      | ⟨0, _⟩ => show d.start (ix1 n) idx 0 + (d.window (ix1 n) 0 : Int) = (e.val : Int); rw [hs0, hw0]; omega
      | ⟨1, _⟩ =>
        show d.start (ix1 n) idx 1 + (d.window (ix1 n) 1 : Int) = (n.val : Int)
        rw [hs1, hw1]
        show 0 + (n.val : Int) = n.val
        omega
  by_cases h : (idx (ix1 (0 : Fin 1))).toInt = e.val
  · rw [if_pos h]
    exact scatter_set_hit d x idx upd _ _ (fun y hy => congrArg upd ((lands y).1 hy).2) (ix1 n) ((lands _).2 ⟨h, rfl⟩)
  · rw [if_neg h]
    exact scatter_set_miss d x idx upd _ fun y hy => h ((lands y).1 hy).1

end Cert.RefOps
-- ==== Proof.RefStep.lean ====
/-
  ONE TRIP OF THE REFERENCE'S LOOP, at an index: the row the trip's column word names takes the maximum with the trip's
  contribution, every other row keeps.
-/
module

public import proofs.«01_k».proof.Proof.Gen.ReferenceIdeal.Run
public import proofs.«01_k».proof.Proof.RefOps
public import Idealize.ShloMosaic.Lib.StableHlo.ReadAt

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo Idealize.ShloMosaic.Tactic

variable {F : FTy → Type} [FloatOps F]

/-- A word below 2³¹ keeps through the wrap of a negative index. -/
theorem wrap_ofNat (k : ℕ) (hk : k < 2 ^ 31) (a : BitVec 32) :
    Scalar.select (IntOp.cmpi .slt (BitVec.ofNat 32 k) 0#32) a (BitVec.ofNat 32 k) = BitVec.ofNat 32 k :=
  Routing.wrap_of_lt _ _ (by rw [BitVec.toNat_ofNat]; exact lt_of_le_of_lt (Nat.mod_le _ _) hk)

theorem toInt_ofNat (k : ℕ) (hk : k < 2 ^ 31) : (BitVec.ofNat 32 k).toInt = k := StableHlo.Predicate.toInt_ofNat_small _ hk

/-- Row `r` of a table, cut out at two index words: its lane `n`. -/
theorem cut_row {α : Type} {N : ℕ} (x : (⟨2, ![N, 1024]⟩ : Shape).Idx → α) (r : ℕ) (hr : r < N) (st : Fin 2 → Int)
    (h0 : st 0 = r) (h1 : st 1 = 0) (h : (⟨2, ![N, 1024]⟩ : Shape).Slices (fun _ => 0) S1x1024) (hc : S1x1024.ShapeCasts S1024) (n : Fin 1024) :
    shapeCast S1024 (Host.dynamicSlice S1x1024 x st h) hc (ix1 n) = x (ix2 ⟨r, hr⟩ n) := by
  pointwise
  refine congrArg x (funext fun a => Fin.ext ?_)
  match a with
  | ⟨0, _⟩ =>
    refine (congrArg (· + 0) (Host.clampedStart_of_le h.1 st 0 r h0 ?_)).trans (Nat.add_zero r)
    show r + 1 ≤ N
    omega
  | ⟨1, _⟩ =>
    refine (congrArg (· + n.val) (Host.clampedStart_of_le h.1 st 1 0 h1 ?_)).trans (Nat.zero_add n.val)
    show 0 + 1024 ≤ 1024
    omega

/-- Entry `r` of a vector, cut out at one index word. -/
theorem cut_entry {α : Type} {N : ℕ} (x : (⟨1, ![N]⟩ : Shape).Idx → α) (r : ℕ) (hr : r < N) (st : Fin 1 → Int)
    (h0 : st 0 = r) (h : (⟨1, ![N]⟩ : Shape).Slices (fun _ => 0) S1) (hc : S1.ShapeCasts S_) (y : S_.Idx) :
    shapeCast S_ (Host.dynamicSlice S1 x st h) hc y = x (ix1 ⟨r, hr⟩) := by
  pointwise
  refine congrArg x (funext fun a => Fin.ext ?_)
  match a with
  | ⟨0, _⟩ =>
    refine (congrArg (· + 0) (Host.clampedStart_of_le h.1 st 0 r h0 ?_)).trans (Nat.add_zero r)
    show r + 1 ≤ N
    omega

/-- One trip on plain arrays. -/
theorem row_step (A : FVec F S4096x1024 .f32) (C : FVec F S16777x1024 .f32) (w : BitVec 32) (hw : w.toNat < 4096) (k : ℕ) (hk : k < 16777)
    (idx : IVec S1 32) (hidx : idx (ix1 (0 : Fin 1)) = w) (sa sc : Fin 2 → Int) (ha0 : sa 0 = w.toInt) (ha1 : sa 1 = 0)
    (hc0 : sc 0 = k) (hc1 : sc 1 = 0) (e : Fin 4096) (n : Fin 1024) :
    Host.scatter scatter_S4096x1024_S1_S1024_0_0_0_0 (fun _ b => b) A idx
        (maximumf (shapeCast S1024 (Host.dynamicSlice S1x1024 A sa sliceFits_S4096x1024_S1x1024) shapeCasts_S1x1024_S1024)
          (shapeCast S1024 (Host.dynamicSlice S1x1024 C sc sliceFits_S16777x1024_S1x1024) shapeCasts_S1x1024_S1024)) (ix2 e n)
      = if w.toNat = e.val then FloatOps.maximumf (A (ix2 e n)) (C (ix2 ⟨k, hk⟩ n)) else A (ix2 e n) := by
  have hwi : w.toInt = w.toNat := BitVec.toInt_eq_toNat_of_lt (by omega)
  refine (Cert.RefOps.scatter_row scatter_S4096x1024_S1_S1024_0_0_0_0 rfl rfl rfl rfl A idx _ e n).trans ?_
  rw [hidx, hwi]
  by_cases h : w.toNat = e.val
  · rw [if_pos h, if_pos (by exact_mod_cast h)]
    exact congrArg₂ FloatOps.maximumf (cut_row A e.val e.isLt sa (by rw [ha0, hwi, h]) ha1 _ _ n) (cut_row C k hk sc hc0 hc1 _ _ n)
  · rw [if_neg h, if_neg (by exact_mod_cast h)]

section Trip
variable (V0 : Valuation τ sig (Elt F)) (k : ℕ) (hk : k < 16777)
  (hi : (V0 (Proc.devRef .tc main_v16_3) : IVec S_ 32) = fun _ => BitVec.ofNat 32 k)
include hi

theorem v49_eq : (res_main_while0b_v49 V0 : IVec S_ 32) = fun _ => (V0 (Proc.devRef .tc main_v16_0) : IVec S16777 32) (ix1 ⟨k, hk⟩) := by
  unfold res_main_while0b_v49
  rw [hi]
  generalize (V0 (Proc.devRef .tc main_v16_0) : IVec S16777 32) = K
  funext y
  refine cut_entry K k hk _ ?_ _ _ y
  show (Scalar.select (IntOp.cmpi .slt (BitVec.ofNat 32 k) 0#32) (IntOp.addi (BitVec.ofNat 32 k) 16777#32) (BitVec.ofNat 32 k)).toInt = _
  rw [wrap_ofNat k (by omega), toInt_ofNat k (by omega)]

theorem v55_eq : (res_main_while0b_v55 V0 : IVec S_ 32) = fun _ => (V0 (Proc.devRef .tc main_v16_0) : IVec S16777 32) (ix1 ⟨k, hk⟩) :=
  v49_eq V0 k hk hi

/-- The carried table after the trip: the row the column word names takes the maximum with the trip's contribution. -/
theorem step_apply (hw : ((V0 (Proc.devRef .tc main_v16_0) : IVec S16777 32) (ix1 ⟨k, hk⟩)).toNat < 4096) (e : Fin 4096) (n : Fin 1024) :
    (step_main_v16_4 V0 : FVec F S4096x1024 .f32) (ix2 e n)
      = if ((V0 (Proc.devRef .tc main_v16_0) : IVec S16777 32) (ix1 ⟨k, hk⟩)).toNat = e.val
        then FloatOps.maximumf ((V0 (Proc.devRef .tc main_v16_4) : FVec F S4096x1024 .f32) (ix2 e n))
          ((V0 (Proc.devRef .tc main_v16_1) : FVec F S16777x1024 .f32) (ix2 ⟨k, hk⟩ n))
        else (V0 (Proc.devRef .tc main_v16_4) : FVec F S4096x1024 .f32) (ix2 e n) := by
  unfold step_main_v16_4
  rw [v49_eq V0 k hk hi, v55_eq V0 k hk hi]
  unfold res_main_while0b_v64
  rw [hi]
  have hwr : ∀ (w a : BitVec 32), w.toNat < 4096 → Scalar.select (IntOp.cmpi .slt w 0#32) a w = w := fun w a h => Routing.wrap_of_lt w a (by omega)
  generalize (V0 (Proc.devRef .tc main_v16_0) : IVec S16777 32) (ix1 ⟨k, hk⟩) = w at hw ⊢
  generalize (V0 (Proc.devRef .tc main_v16_4) : FVec F S4096x1024 .f32) = A
  generalize (V0 (Proc.devRef .tc main_v16_1) : FVec F S16777x1024 .f32) = C
  dsimp only [id]
  have key := fun idx hidx sa sc ha0 ha1 hc0 hc1 => row_step A C w hw k hk idx hidx sa sc ha0 ha1 hc0 hc1 e n
  refine key _ ?_ _ _ ?_ ?_ ?_ ?_
  · exact hwr _ _ hw
  · exact congrArg BitVec.toInt (hwr _ _ hw)
  · rfl
  · exact (congrArg BitVec.toInt (wrap_ofNat k (by omega) _)).trans (toInt_ofNat k (by omega))
  · rfl

end Trip

/-- What the carried table holds at `(e, n)` after `k` trips over columns `K` and contributions `C`, from `z`. -/
def folded (K : IVec S16777 32) (C : FVec F S16777x1024 .f32) (z : F .f32) (e : Fin 4096) (n : Fin 1024) : ℕ → F .f32
  | 0 => z
  | k + 1 => if h : k < 16777 then
      (if (K (ix1 ⟨k, h⟩)).toNat = e.val then FloatOps.maximumf (folded K C z e n k) (C (ix2 ⟨k, h⟩ n)) else folded K C z e n k)
    else folded K C z e n k

/-- The carried buffers after `k` trips. -/
theorem iterate_apply (V : Valuation τ sig (Elt F)) (K : IVec S16777 32) (C : FVec F S16777x1024 .f32) (z : F .f32)
    (h0 : (V (Proc.devRef .tc main_v16_0) : IVec S16777 32) = K) (h1 : (V (Proc.devRef .tc main_v16_1) : FVec F S16777x1024 .f32) = C)
    (h3 : (V (Proc.devRef .tc main_v16_3) : IVec S_ 32) = fun _ => 0#32)
    (h4 : ∀ e n, (V (Proc.devRef .tc main_v16_4) : FVec F S4096x1024 .f32) (ix2 e n) = z)
    (hK : ∀ k : Fin 16777, (K (ix1 k)).toNat < 4096) : ∀ k, k ≤ 16777 →
    ((STEP^[k] V) (Proc.devRef .tc main_v16_0) : IVec S16777 32) = K
      ∧ ((STEP^[k] V) (Proc.devRef .tc main_v16_1) : FVec F S16777x1024 .f32) = C
      ∧ ((STEP^[k] V) (Proc.devRef .tc main_v16_3) : IVec S_ 32) = (fun _ => BitVec.ofNat 32 k)
      ∧ ∀ e n, ((STEP^[k] V) (Proc.devRef .tc main_v16_4) : FVec F S4096x1024 .f32) (ix2 e n) = folded K C z e n k
  | 0, _ => ⟨h0, h1, h3, h4⟩
  | k + 1, hk => by
    obtain ⟨i0, i1, i3, i4⟩ := iterate_apply V K C z h0 h1 h3 h4 hK k (by omega)
    rw [Function.iterate_succ_apply']
    have hk' : k < 16777 := by omega
    refine ⟨(STEP_main_v16_0 _).trans i0, (STEP_main_v16_1 _).trans i1, (STEP_main_v16_3 _).trans ?_, fun e n => ?_⟩
    · unfold step_main_v16_3
      rw [i3]
      funext y
      show BitVec.ofNat 32 k + 1#32 = BitVec.ofNat 32 (k + 1)
      rw [BitVec.ofNat_add]
    · rw [STEP_main_v16_4, step_apply _ k hk' i3 (by rw [i0]; exact hK _), i0, i1, i4]
      show _ = dite _ _ _
      rw [dif_pos hk']

end Cert.ReferenceIdeal.Value

end
-- ==== Proof.RefPost.lean ====
/-
  THE REFERENCE'S HOST OPERATIONS before and after its loop, at an index.
-/
module

public import proofs.«01_k».proof.Proof.RefStep
public import proofs.«01_k».proof.Proof.Spec

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo Idealize.ShloMosaic.Tactic

variable {F : FTy → Type} [FloatOps F]

section Terms
variable (M : FVec F S4096x1024 .f32) (C : FVec F S16777x1024 .f32) (K : IVec S16777 32)

/-- The stabiliser of every column: its maximum where that is finite, zero elsewhere. -/
def safeM : FVec F S4096x1024 .f32 :=
  select (andi (cmpf .ogt M (broadcastInDim S4096x1024 ![] bcast_S_S4096x1024 (constant S_ .f32 0xFF800000#32)))
    (cmpf .olt M (broadcastInDim S4096x1024 ![] bcast_S_S4096x1024 (constant S_ .f32 0x7F800000#32)))) M
    (broadcastInDim S4096x1024 ![] bcast_S_S4096x1024 (id (constant S_ .f32 0x00000000#32)))

/-- The sums of exponentials of every column. -/
def sums : FVec F S4096x1024 .f32 :=
  Host.scatterAdd scatter_S4096x1024_S16777x1_S16777x1024_1_0_0_1
    (broadcastInDim S4096x1024 ![] bcast_S_S4096x1024 (constant S_ .f32 0x00000000#32))
    (broadcastInDim S16777x1 ![0] bcast_S16777_S16777x1_0 K)
    (Host.exp (subf C (Host.gather gather_S4096x1024_S16777x1_S16777x1024_1_0_n_n_0_1_11024 (safeM M)
      (broadcastInDim S16777x1 ![0] bcast_S16777_S16777x1_0
        (select (cmpi .slt K (broadcastInDim S16777 ![] bcast_S_S16777 (constantI S_ 32 0#32)))
          (addi K (broadcastInDim S16777 ![] bcast_S_S16777 (constantI S_ 32 4096#32))) K)))))

/-- The result, one row per column of the sparse matrix. -/
def logs : FVec F S4096x1024 .f32 :=
  select (cmpf .ogt (sums M C K) (broadcastInDim S4096x1024 ![] bcast_S_S4096x1024 (constant S_ .f32 0x00000000#32)))
    (addf (safeM M) (Host.log (maximumf (sums M C K) (broadcastInDim S4096x1024 ![] bcast_S_S4096x1024 (constant S_ .f32 0x006CE3EE#32)))))
    (broadcastInDim S4096x1024 ![] bcast_S_S4096x1024 (id (constant S_ .f32 0xFF800000#32)))

end Terms

set_option maxHeartbeats 2000000 in
/-- The operations after the loop, of the contents before them. -/
theorem post_eq (V : Valuation τ sig (Elt F)) : (afterL postI V (Proc.devRef .tc main_v42) : FVec F S1024x4096 .f32)
    = transpose S1024x4096 [1, 0] (logs (V (Proc.devRef .tc main_v16_4)) (V (Proc.devRef .tc main_v14)) (V (Proc.devRef .tc main_v3)))
        transposes_S4096x1024_S1024x4096_1_0 := by
  unfold logs sums safeM
  simp only [postI, afterL_cons, afterL_nil, hostOps0_1, hostOps0_2, hostOps0_3, hostOps0_4, hostOps0_5]
  after_results
  rfl

variable (m : (ℓ : Loc nD τ sig) → Buf (Elt F) ℓ)

theorem entry_v3 (c : Dev nD) (k : Fin 16777) : (entryContents preI m c (Proc.devRef .tc main_v3) : IVec S16777 32) (ix1 k)
    = (m (c.tc.loc main_arg2) : IVec S2x16777 32) (ix2 1 k) := by
  simp only [entryContents, afterL_cons, afterL_nil]
  after_reads_at

theorem entry_v1 (c : Dev nD) (k : Fin 16777) : (entryContents preI m c (Proc.devRef .tc main_v1) : IVec S16777 32) (ix1 k)
    = (m (c.tc.loc main_arg2) : IVec S2x16777 32) (ix2 0 k) := by
  simp only [entryContents, afterL_cons, afterL_nil]
  after_reads_at

theorem entry_v16_3 (c : Dev nD) : (entryContents preI m c (Proc.devRef .tc main_v16_3) : IVec S_ 32) = fun _ => 0#32 := by
  simp only [entryContents, afterL_cons, afterL_nil]
  after_reads_simp
  rfl

theorem entry_v16_0 (c : Dev nD) : entryContents preI m c (Proc.devRef .tc main_v16_0) = entryContents preI m c (Proc.devRef .tc main_v3) := by
  simp only [entryContents, afterL_cons, afterL_nil]
  after_reads_simp
  rfl

theorem entry_v16_1 (c : Dev nD) : entryContents preI m c (Proc.devRef .tc main_v16_1) = entryContents preI m c (Proc.devRef .tc main_v14) := by
  simp only [entryContents, afterL_cons, afterL_nil]
  after_reads_simp
  rfl

theorem entry_v16_4 (c : Dev nD) (e : Fin 4096) (n : Fin 1024) : (entryContents preI m c (Proc.devRef .tc main_v16_4) : FVec F S4096x1024 .f32) (ix2 e n)
    = FloatOps.ofBits .f32 0xFF800000#32 := by
  simp only [entryContents, afterL_cons, afterL_nil]
  after_reads_at
  rfl

/-- The columns of the dense matrix taken at the wrapped row words, plus the nonzeros' values. -/
theorem entry_v14 (c : Dev nD) : (entryContents preI m c (Proc.devRef .tc main_v14) : FVec F S16777x1024 .f32)
    = addf (transpose S16777x1024 [1, 0] (Host.gather gather_S1024x4096_S16777x1_S1024x16777_0_1_n_n_1_1_10241 (m (c.tc.loc main_arg0) : FVec F S1024x4096 .f32)
          (broadcastInDim S16777x1 ![0] bcast_S16777_S16777x1_0
            (select (cmpi .slt (entryContents preI m c (Proc.devRef .tc main_v1) : IVec S16777 32) (broadcastInDim S16777 ![] bcast_S_S16777 (constantI S_ 32 0#32)))
              (addi (entryContents preI m c (Proc.devRef .tc main_v1) : IVec S16777 32) (broadcastInDim S16777 ![] bcast_S_S16777 (constantI S_ 32 4096#32)))
              (entryContents preI m c (Proc.devRef .tc main_v1) : IVec S16777 32)))) transposes_S1024x16777_S16777x1024_1_0)
        (broadcastInDim S16777x1024 ![0, 1] bcast_S16777x1_S16777x1024_0_1 (broadcastInDim S16777x1 ![0] bcast_S16777_S16777x1_0 (m (c.tc.loc main_arg1) : FVec F S16777 .f32))) := by
  simp only [entryContents, afterL_cons, afterL_nil]
  after_reads_simp

end Cert.ReferenceIdeal.Value

end
-- ==== Proof.RefValue.lean ====
/-
  THE REFERENCE'S RUN AND ITS RESULT at an index, over the extended reals: the logarithm of the sum, over the nonzeros of
  a column, of the exponentials of their contributions.
-/
module

public import proofs.«01_k».proof.Proof.RefPost
public import Idealize.ShloMosaic.Lib.Quiescent

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo Idealize.ShloMosaic.Tactic
open Idealize.SL.Sem

/-- The index words behind the wrap of negative ones, one a row: words below the extent are themselves. -/
theorem wrapped_apply (K : IVec S16777 32) (k : Fin 16777) (h : (K (ix1 k)).toNat < 4096) :
    broadcastInDim S16777x1 ![0] bcast_S16777_S16777x1_0
      (select (cmpi .slt K (broadcastInDim S16777 ![] bcast_S_S16777 (constantI S_ 32 0#32)))
        (addi K (broadcastInDim S16777 ![] bcast_S_S16777 (constantI S_ 32 4096#32))) K) (ix2 k (0 : Fin 1)) = K (ix1 k) := by
  have hw : ∀ a, Scalar.select (IntOp.cmpi .slt (K (ix1 k)) 0#32) a (K (ix1 k)) = K (ix1 k) := fun a =>
    Routing.wrap_of_lt _ a (by omega)
  pointwise [hw]

section Kept
variable {F : FTy → Type} [FloatOps F] (m : (ℓ : Loc nD τ sig) → Buf (Elt F) ℓ) (ρ : Dev nD → PrngReg)

/-- A buffer neither the condition nor the body writes is at the loop's end as at its entry. -/
theorem atK_keep (c : Dev nD) (b : Ref sig .tc) (hc : b ∉ condOps_W) (hb : b ∉ while0Ops0_W) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub while0Ops0 _ while0Ops0_writes hb, after_of_writes_sub condOps _ condOps_writes hc]
    exact atK_keep c b hc hb k

/-- Every buffer's contents when the loop is left. -/
abbrev exitC (c : Dev nD) : Valuation τ sig (Elt F) := after condOps (atK m 16777 c)

theorem exit_keep (c : Dev nD) (b : Ref sig .tc) (hc : b ∉ condOps_W) (hb : b ∉ while0Ops0_W) :
    exitC m c (Proc.devRef .tc b) = entryContents preI m c (Proc.devRef .tc b) :=
  (after_of_writes_sub condOps _ condOps_writes hc).trans (atK_keep m c b hc hb 16777)

theorem post_keep (V : Valuation τ sig (Elt F)) :
    afterL postI V (Proc.devRef .tc main_arg0) = V (Proc.devRef .tc main_arg0)
      ∧ afterL postI V (Proc.devRef .tc main_arg1) = V (Proc.devRef .tc main_arg1)
      ∧ afterL postI V (Proc.devRef .tc main_arg2) = V (Proc.devRef .tc main_arg2) := by
  simp only [postI, afterL_cons, afterL_nil, hostOps0_1, hostOps0_2, hostOps0_3, hostOps0_4, hostOps0_5]
  refine ⟨?_, ?_, ?_⟩ <;> after_results

theorem entry_keep (c : Dev nD) (b : Ref sig .tc) (h : b ∉ hostOps0_W) :
    entryContents preI m c (Proc.devRef .tc b) = m (c.tc.loc b) :=
  after_of_writes_sub hostOps0 _ hostOps0_writes h

/-- The run: the result as the fold of the operations leaves it, the arguments unchanged, the counters zero. -/
theorem run_args : θ_run (defs (F := F)) (onTc (τ := τ) (main (F := F))) ⟨m, fun _ => 0, ρ⟩ (fun r => (∀ c : Dev nD,
      r.2.mem ((c.tc : Thread nD τ).loc main_v42) = afterL postI (exitC m c) (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ⟨h c main_v42 rfl, ?_, ?_, ?_⟩, ?_⟩) (run_fold m ρ)
  · exact (h c main_arg0 rfl).trans ((post_keep _).1.trans ((exit_keep m c main_arg0 (by decide) (by decide)).trans (entry_keep m c main_arg0 (by decide))))
  · exact (h c main_arg1 rfl).trans ((post_keep _).2.1.trans ((exit_keep m c main_arg1 (by decide) (by decide)).trans (entry_keep m c main_arg1 (by decide))))
  · exact (h c main_arg2 rfl).trans ((post_keep _).2.2.trans ((exit_keep m c main_arg2 (by decide) (by decide)).trans (entry_keep m c main_arg2 (by decide))))
  · exact sem_eq_zero_of_no_sems rfl _

end Kept

section Ideal

/-- The carried table is the maximum over the trips so far: a bound of it is a bound of each. -/
theorem folded_le (K : IVec S16777 32) (C : FVec Ideal S16777x1024 .f32) (e : Fin 4096) (n : Fin 1024) (x : EReal) :
    ∀ k, folded (F := Ideal) K C (⊥ : EReal) e n k ≤ x ↔ ∀ j : Fin 16777, j.val < k → (K (ix1 j)).toNat = e.val → (C (ix2 j n) : EReal) ≤ x
  | 0 => ⟨fun _ j hj => absurd hj (Nat.not_lt_zero _), fun _ => bot_le⟩
  | k + 1 => by
    have ih := folded_le K C e n x k
    unfold folded
    by_cases h : k < 16777
    · rw [dif_pos h]
      by_cases he : (K (ix1 ⟨k, h⟩)).toNat = e.val
      · rw [if_pos he]
        refine (max_le_iff (a := (folded (F := Ideal) K C (⊥ : EReal) e n k : EReal))).trans ?_
        rw [ih]
        constructor
        · rintro ⟨h1, h2⟩ j hj hje
          rcases Nat.lt_succ_iff_lt_or_eq.1 hj with hlt | heq
          · exact h1 j hlt hje
          · obtain rfl : j = ⟨k, h⟩ := Fin.ext heq
            exact h2
        · intro H
          exact ⟨fun j hj hje => H j (by omega) hje, H ⟨k, h⟩ (Nat.lt_succ_self k) he⟩
      · rw [if_neg he, ih]
        constructor
        · intro H j hj hje
          rcases Nat.lt_succ_iff_lt_or_eq.1 hj with hlt | heq
          · exact H j hlt hje
          · obtain rfl : j = ⟨k, h⟩ := Fin.ext heq
            exact absurd hje he
        · intro H j hj hje
          exact H j (by omega) hje
    · rw [dif_neg h, ih]
      constructor
      · intro H j hj hje
        exact H j (by have := j.isLt; omega) hje
      · intro H j hj hje
        exact H j (by omega) hje

/-- After all the trips it is the maximum over the column. -/
theorem folded_sup (K : IVec S16777 32) (C : FVec Ideal S16777x1024 .f32) (e : Fin 4096) (n : Fin 1024) :
    folded (F := Ideal) K C (⊥ : EReal) e n 16777
      = (Finset.univ.filter (fun k : Fin 16777 => (K (ix1 k)).toNat = e.val)).sup fun k => (C (ix2 k n) : EReal) := by
  refine eq_of_forall_ge_iff fun x => ?_
  rw [folded_le, Finset.sup_le_iff]
  constructor
  · intro H j hj
    exact H j j.isLt (Finset.mem_filter.1 hj).2
  · intro H j _ hj
    exact H j (Finset.mem_filter.2 ⟨Finset.mem_univ _, hj⟩)

variable (M : FVec Ideal S4096x1024 .f32) (C : FVec Ideal S16777x1024 .f32) (K : IVec S16777 32)

theorem safeM_apply (e : Fin 4096) (n : Fin 1024) : (safeM M (ix2 e n) : EReal) = Cert.SegSum.safe (M (ix2 e n)) := by
  unfold safeM Cert.SegSum.safe
  generalize hx : (M (ix2 e n) : EReal) = x
  pointwise [Cert.SegSum.ofBits_bot, Cert.SegSum.ofBits_top, hx]
  have hz : (id (constant (F := Ideal) S_ FTy.f32 0#32) ix0 : EReal) = 0 := Ideal.ofBits_zero_f32
  by_cases h1 : ⊥ < x
  · by_cases h2 : x < ⊤
    · rw [if_pos ⟨h1, h2⟩, decide_eq_true h1, decide_eq_true h2]; rfl
    · rw [if_neg fun h => h2 h.2, decide_eq_true h1, decide_eq_false h2]; exact hz
  · rw [if_neg fun h => h1 h.1, decide_eq_false h1]
    by_cases h2 : x < ⊤
    · rw [decide_eq_true h2]; exact hz
    · rw [decide_eq_false h2]; exact hz

variable (hK : ∀ k : Fin 16777, (K (ix1 k)).toNat < 4096)
include hK

theorem sums_apply (e : Fin 4096) (n : Fin 1024) : (sums M C K (ix2 e n) : EReal)
    = ∑ k ∈ Finset.univ.filter (fun k : Fin 16777 => (K (ix1 k)).toNat = e.val),
        Ideal.exp ((C (ix2 k n) : EReal) - Cert.SegSum.safe (M (ix2 e n))) := by
  unfold sums
  refine (Cert.RefOps.scatterAdd_rows scatter_S4096x1024_S16777x1_S16777x1024_1_0_0_1 rfl rfl rfl rfl _ _ _ e n).trans ?_
  have h0 : (broadcastInDim S4096x1024 ![] bcast_S_S4096x1024 (constant (F := Ideal) S_ .f32 0x00000000#32) (ix2 e n) : EReal) = 0 :=
    Ideal.ofBits_zero_f32
  refine (congrArg (· + _) h0).trans ((zero_add _).trans ?_)
  have hi : ∀ k : Fin 16777, (K (ix1 k)).toInt = ((K (ix1 k)).toNat : Int) := fun k =>
    BitVec.toInt_eq_toNat_of_lt (by have := hK k; omega)
  have hb : ∀ k : Fin 16777, broadcastInDim S16777x1 ![0] bcast_S16777_S16777x1_0 K (ix2 k (0 : Fin 1)) = K (ix1 k) := fun k => by pointwise
  refine Finset.sum_congr (Finset.filter_congr fun k _ => ?_) fun k hk => ?_
  · rw [hb, hi]; exact Int.ofNat_inj
  · have hke : (K (ix1 k)).toNat = e.val := (Finset.mem_filter.1 hk).2
    have hg := Routing.gather_row gather_S4096x1024_S16777x1_S16777x1024_1_0_n_n_0_1_11024 rfl rfl rfl rfl rfl (safeM M)
      (broadcastInDim S16777x1 ![0] bcast_S16777_S16777x1_0
        (select (cmpi .slt K (broadcastInDim S16777 ![] bcast_S_S16777 (constantI S_ 32 0#32)))
          (addi K (broadcastInDim S16777 ![] bcast_S_S16777 (constantI S_ 32 4096#32))) K)) k n e (by
        rw [← ix2_eq_valueIdx]
        refine (wrapped_apply K k (hK k)).trans (BitVec.eq_of_toNat_eq ?_)
        rw [hke, BitVec.toNat_ofNat]
        exact (Nat.mod_eq_of_lt (by omega)).symm) (by norm_num)
    refine congrArg Ideal.exp (congrArg ((C (ix2 k n) : EReal) - ·) ?_)
    exact hg.trans (safeM_apply M e n)

/-- The reference's result at `(e, n)`, where the table holds the columns' maxima. -/
theorem logs_apply (e : Fin 4096) (n : Fin 1024)
    (hM : (M (ix2 e n) : EReal) = (Finset.univ.filter (fun k : Fin 16777 => (K (ix1 k)).toNat = e.val)).sup fun k => (C (ix2 k n) : EReal)) :
    (logs M C K (ix2 e n) : EReal)
      = Ideal.log (∑ k ∈ Finset.univ.filter (fun k : Fin 16777 => (K (ix1 k)).toNat = e.val), Ideal.exp (C (ix2 k n))) := by
  rw [← Cert.SegSum.log_sum _ _ _ Cert.SegSum.ofBits_tiny, ← hM, ← sums_apply M C K hK, ← safeM_apply]
  unfold logs
  generalize sums M C K = S
  generalize safeM M = T
  have hbot : (id (constant (F := Ideal) S_ FTy.f32 0xFF800000#32) ix0 : EReal) = ⊥ := Cert.SegSum.ofBits_bot
  by_cases h : (0 : EReal) < S (ix2 e n)
  · rw [if_pos h]
    pointwise
    rw [if_pos h]
  · rw [if_neg h]
    pointwise
    rw [if_neg h]
    exact hbot

end Ideal

section Program
open Cert.Spec
variable (m : (ℓ : Loc nD τ sig) → Buf (Elt Ideal) ℓ) (c : Dev nD)
  (hJ : ∀ (r : Fin 2) (k : Fin 16777), ((m (c.tc.loc main_arg2) : IVec S2x16777 32) (ix2 r k)).toNat < 4096)
include hJ

/-- The contributions the reference gathers. -/
theorem contrib_apply (k : Fin 16777) (n : Fin 1024) :
    ((entryContents preI m c (Proc.devRef .tc main_v14) : FVec Ideal S16777x1024 .f32) (ix2 k n) : EReal)
      = contrib (m (c.tc.loc main_arg0)) (m (c.tc.loc main_arg1)) (m (c.tc.loc main_arg2)) n k := by
  rw [entry_v14]
  have e1 : ∀ k, (entryContents preI m c (Proc.devRef .tc main_v1) : IVec S16777 32) (ix1 k) = _ := entry_v1 m c
  generalize (entryContents preI m c (Proc.devRef .tc main_v1) : IVec S16777 32) = R at e1 ⊢
  have hR : (R (ix1 k)).toNat < 4096 := by rw [e1]; exact hJ 0 k
  have hg := Cert.RefOps.gather_col gather_S1024x4096_S16777x1_S1024x16777_0_1_n_n_1_1_10241 rfl rfl rfl rfl rfl
    (m (c.tc.loc main_arg0) : FVec Ideal S1024x4096 .f32) _ n k
    ⟨((m (c.tc.loc main_arg2) : IVec S2x16777 32) (ix2 0 k)).toNat % 4096, Nat.mod_lt _ (by decide)⟩
    ((congrArg BitVec.toNat ((wrapped_apply R k hR).trans (e1 k))).trans (Nat.mod_eq_of_lt (hJ 0 k)).symm) (by norm_num)
  unfold contrib
  refine Eq.trans ?_ (congrArg (· + _) hg)
  generalize Host.gather gather_S1024x4096_S16777x1_S1024x16777_0_1_n_n_1_1_10241 (m (c.tc.loc main_arg0) : FVec Ideal S1024x4096 .f32) _ = G
  pointwise

/-- The program's result at an index. -/
theorem value_apply (n : Fin 1024) (e : Fin 4096) :
    ((afterL postI (exitC m c) (Proc.devRef .tc main_v42) : FVec Ideal S1024x4096 .f32) (ix2 n e) : EReal)
      = logSum (m (c.tc.loc main_arg0)) (m (c.tc.loc main_arg1)) (m (c.tc.loc main_arg2)) n e := by
  rw [post_eq, exit_keep m c main_v14 (by decide) (by decide), exit_keep m c main_v3 (by decide) (by decide)]
  have hK : ∀ k : Fin 16777, ((entryContents preI m c (Proc.devRef .tc main_v3) : IVec S16777 32) (ix1 k)).toNat < 4096 := fun k => by
    rw [entry_v3]; exact hJ 1 k
  have hM : ∀ e n, ((exitC m c (Proc.devRef .tc main_v16_4) : FVec Ideal S4096x1024 .f32) (ix2 e n) : EReal)
      = folded (F := Ideal) (entryContents preI m c (Proc.devRef .tc main_v3)) (entryContents preI m c (Proc.devRef .tc main_v14)) (⊥ : EReal) e n 16777 := by
    intro e n
    have hit := (iterate_apply (F := Ideal) (entryContents preI m c) _ _ (⊥ : EReal) (entry_v16_0 m c) (entry_v16_1 m c) (entry_v16_3 m c)
      (fun e n => (entry_v16_4 m c e n).trans Cert.SegSum.ofBits_bot) hK 16777 le_rfl).2.2.2 e n
    refine Eq.trans (congrFun ?_ _) hit
    exact (after_of_writes_sub condOps _ condOps_writes (by decide)).trans (atK_agree m c 16777 main_v16_4 (by decide))
  have h := logs_apply _ _ _ hK e n ((hM e n).trans (folded_sup _ _ e n))
  unfold logSum
  refine Eq.trans ?_ (h.trans (congrArg Ideal.log ?_))
  · generalize logs (F := Ideal) _ _ _ = L
    pointwise
  · refine Finset.sum_congr (Finset.filter_congr fun k _ => ?_) fun k _ => ?_
    · rw [entry_v3]
    · exact congrArg Ideal.exp (contrib_apply m c hJ k n)

end Program

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_drawn
public import proofs.«01_k».proof.Proof.Draw
public import proofs.«01_k».proof.Proof.Same
public import proofs.«01_k».proof.Proof.KernelSum
public import proofs.«01_k».proof.Proof.RefValue
public import Idealize.ShloMosaic.Adequacy
public import Idealize.ShloMosaic.Init

@[expose] public section

noncomputable section

namespace Cert.Proof

open Idealize.ShloMosaic Idealize.ShloMosaic.StableHlo Idealize.ShloMosaic.Tactic Idealize.SL.Sem

/-- The two results, at one index. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (n : Fin 1024) (e : Fin 4096) :
    (afterL Cert.ReferenceIdeal.Value.postI (Cert.ReferenceIdeal.Value.exitC m' c) (Proc.devRef .tc Cert.ReferenceIdeal.main_v42) : FVec Ideal Cert.ReferenceIdeal.S1024x4096 .f32) (ix2 n e)
      = Cert.KernelIdeal.Seg.out m c (ix2 n e) := by
  refine (Cert.ReferenceIdeal.Value.value_apply m' c (fun r k => ?_) n e).trans ?_
  · rw [h2]; exact (Cert.Draw.entry _ _ _ (h c) r k).1
  · rw [h0, h1, h2]; exact (Cert.KernelIdeal.Seg.out_apply m h c n e).symm

/-- Every claim of the certificate. -/
theorem claim : Cert.Claim := ⟨Cert.Kernel.Gen.facts, Cert.KernelIdeal.Gen.facts, Cert.ReferenceIdeal.Gen.facts, Cert.Pre_drawn.Gen.facts,
  fun m g h => Cert.Kernel.Same.frame m g h,
  fun m g h => (θ_run _ _ _).mono (fun _ k => ⟨fun c => (k.1 c).2, k.2⟩) (Cert.KernelIdeal.Seg.run m g (Cert.KernelIdeal.Seg.inRange_of_pre m h)),
  fun m g _ => (θ_run _ _ _).mono (fun _ k => ⟨fun c => (k.1 c).2, k.2⟩) (Cert.ReferenceIdeal.Value.run_args m g),
  fun m g _ => (θ_run _ _ _).mono (fun _ k => ⟨fun c => (k.1 c).2, k.2⟩) (Cert.ReferenceIdeal.Value.run_args m g),
  trivial,
  fun m g m' g' h ha => ⟨fun c => Cert.KernelIdeal.Seg.out m c,
    (θ_run _ _ _).mono (fun _ k => k.1) (Cert.KernelIdeal.Seg.run m g (Cert.KernelIdeal.Seg.inRange_of_pre m h)),
    (θ_run _ _ _).mono (fun _ k c => ⟨(k.1 c).1.trans (funext fun i => by
      rw [eq_ix2 (i : Cert.ReferenceIdeal.S1024x4096.Idx)]
      exact results_eq m m' h c (ha c).1 (ha c).2.1 (ha c).2.2 _ _), (k.1 c).2⟩) (Cert.ReferenceIdeal.Value.run_args m' g')⟩⟩

end Cert.Proof

end
